-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_qk_finite [hPre_qk_finite : Cert.Pre_qk_finite.Facts] (m : (ℓ : Loc Cert.AttnIdeal.nD Cert.AttnIdeal.τ Cert.AttnIdeal.sig) → Buf (Elt Ideal) ℓ) : Prop :=
  ∀ c : Dev Cert.AttnIdeal.nD,
    (Cert.Pre_qk_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_qk_finite [hPre_qk_finite : Cert.Pre_qk_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_qk_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_qk_finite [hAttnIdeal : Cert.AttnIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_qk_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_qk_finite [hAttnRefIdeal : Cert.AttnRefIdeal.Facts] [hPre_qk_finite : Cert.Pre_qk_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_qk_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Attn_AttnIdeal : Prop :=
  True

def algebraic_AttnIdeal_AttnRefIdeal_pre_qk_finite [hAttnIdeal : Cert.AttnIdeal.Facts] [hAttnRefIdeal : Cert.AttnRefIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_qk_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v40)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v40) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v18) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  IdealRules.named_const.Statement Cert.FfnIdeal.κ "gelu_c3" .f32 0x3D122279#32 ((80338380498831 / 2251799813685248 : ℝ) : EReal)

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hPre_qk_finite : Cert.Pre_qk_finite.Facts) (hPre_ffn_finite : Cert.Pre_ffn_finite.Facts),
    quiescent_Attn (hAttn := hAttn)
    ∧ quiescent_AttnIdeal (hAttnIdeal := hAttnIdeal)
    ∧ quiescent_AttnIdeal_pre_qk_finite (hAttnIdeal := hAttnIdeal) (hPre_qk_finite := hPre_qk_finite)
    ∧ quiescent_AttnRefIdeal (hAttnRefIdeal := hAttnRefIdeal)
    ∧ quiescent_AttnRefIdeal_pre_qk_finite (hAttnRefIdeal := hAttnRefIdeal) (hPre_qk_finite := hPre_qk_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ preserves_Attn_AttnIdeal
    ∧ algebraic_AttnIdeal_AttnRefIdeal_pre_qk_finite (hAttnIdeal := hAttnIdeal) (hAttnRefIdeal := hAttnRefIdeal) (hPre_qk_finite := hPre_qk_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
-- ==== Pre_ffn_finite.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg4 : FVec F S1x5632 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  main_v23

def fn {F : FTy → Type} [FloatOps F] (main_arg0 : FVec F S2x8192x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S1x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_v13 main_v16
-- ==== Pre_qk_finite.lean ====
abbrev S2x8x8192x64 : Shape := ⟨4, ![2, 8, 8192, 64]⟩
abbrev S2x2x8192x64 : Shape := ⟨4, ![2, 2, 8192, 64]⟩
abbrev S_ : Shape := ⟨0, ![]⟩

class Facts : Prop where
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  h_S_ : 0 < S_.numel
  bcast_S_S2x2x8192x64 : S_.BroadcastsInDim S2x2x8192x64 (![] : Fin 0 → Fin S2x2x8192x64.rank)
  reducesTo_S2x2x8192x64_S_d0_1_2_3 : S2x2x8192x64.ReducesTo [0, 1, 2, 3] S_

variable [Facts]

def fn {F : FTy → Type} [FloatOps F] (main_arg0 : FVec F S2x8x8192x64 .f32) (main_arg1 : FVec F S2x2x8192x64 .f32) (main_arg2 : FVec F S2x2x8192x64 .f32) : IVec S_ 1 :=
  let main_v0 : FVec F S2x8x8192x64 .f32 := Host.absf main_arg0
  let main_cst : FVec F S_ .f32 := constant S_ .f32 0x7F800000#32
  let main_v1 : FVec F S2x8x8192x64 .f32 := broadcastInDim S2x8x8192x64 ![] bcast_S_S2x8x8192x64 main_cst
  let main_v2 : IVec S2x8x8192x64 1 := cmpf .olt main_v0 main_v1
  let main_c : IVec S_ 1 := constantI S_ 1 1#1
  let main_v3 : IVec S_ 1 := (fun x v => Host.reduce IntOp.andi x v reducesTo_S2x8x8192x64_S_d0_1_2_3 h_S_) main_v2 main_c
  let main_v4 : FVec F S2x2x8192x64 .f32 := Host.absf main_arg1
  let main_cst_0 : FVec F S_ .f32 := constant S_ .f32 0x7F800000#32
  let main_v5 : FVec F S2x2x8192x64 .f32 := broadcastInDim S2x2x8192x64 ![] bcast_S_S2x2x8192x64 main_cst_0
  let main_v6 : IVec S2x2x8192x64 1 := cmpf .olt main_v4 main_v5
  let main_c_1 : IVec S_ 1 := constantI S_ 1 1#1
  let main_v7 : IVec S_ 1 := (fun x v => Host.reduce IntOp.andi x v reducesTo_S2x2x8192x64_S_d0_1_2_3 h_S_) main_v6 main_c_1
  let main_v8 : IVec S_ 1 := andi main_v3 main_v7
  main_v8
-- ==== Attn.lean ====
abbrev S2x8x8192x64 : Shape := ⟨4, ![2, 8, 8192, 64]⟩
abbrev S2x2x8192x64 : Shape := ⟨4, ![2, 2, 8192, 64]⟩
abbrev S_ : Shape := ⟨0, ![]⟩
abbrev S2x2x4x32x256x64 : Shape := ⟨6, ![2, 2, 4, 32, 256, 64]⟩
abbrev S2x2x32x64x4x256 : Shape := ⟨6, ![2, 2, 32, 64, 4, 256]⟩
abbrev S2x2x32x64x1024 : Shape := ⟨5, ![2, 2, 32, 64, 1024]⟩
abbrev S2x2x32x1024 : Shape := ⟨4, ![2, 2, 32, 1024]⟩
abbrev S2x2x32x1x1024 : Shape := ⟨5, ![2, 2, 32, 1, 1024]⟩
abbrev S2x32x64x1024 : Shape := ⟨4, ![2, 32, 64, 1024]⟩
abbrev S2x1x32x64x1024 : Shape := ⟨5, ![2, 1, 32, 64, 1024]⟩
abbrev S2x32x128x1024 : Shape := ⟨4, ![2, 32, 128, 1024]⟩
abbrev S2x1x32x128x1024 : Shape := ⟨5, ![2, 1, 32, 128, 1024]⟩
abbrev S2x2x32x128x1024 : Shape := ⟨5, ![2, 2, 32, 128, 1024]⟩
abbrev S2x8192x2x64 : Shape := ⟨4, ![2, 8192, 2, 64]⟩
abbrev S2x8192x128 : Shape := ⟨3, ![2, 8192, 128]⟩
abbrev S2x2x8192 : Shape := ⟨3, ![2, 2, 8192]⟩
abbrev S2x2x1x8192 : Shape := ⟨4, ![2, 2, 1, 8192]⟩
abbrev S2x2x32x256x64 : Shape := ⟨5, ![2, 2, 32, 256, 64]⟩
abbrev S2x2x32x64x256 : Shape := ⟨5, ![2, 2, 32, 64, 256]⟩
abbrev S16x256 : Shape := ⟨2, ![16, 256]⟩
abbrev S2x2x32x16x256 : Shape := ⟨5, ![2, 2, 32, 16, 256]⟩
abbrev S2x2x32x80x256 : Shape := ⟨5, ![2, 2, 32, 80, 256]⟩
abbrev S2x8192x512 : Shape := ⟨3, ![2, 8192, 512]⟩
abbrev S1x1x32x128x1024 : Shape := ⟨5, ![1, 1, 32, 128, 1024]⟩
abbrev S1x1x32x1x1024 : Shape := ⟨5, ![1, 1, 32, 1, 1024]⟩
abbrev S1x8192x128 : Shape := ⟨3, ![1, 8192, 128]⟩
abbrev S1x1x1x8192 : Shape := ⟨4, ![1, 1, 1, 8192]⟩
abbrev S1x1x32x80x256 : Shape := ⟨5, ![1, 1, 32, 80, 256]⟩
abbrev S1x8192x256 : Shape := ⟨3, ![1, 8192, 256]⟩
abbrev S80x1024 : Shape := ⟨2, ![80, 1024]⟩
abbrev S2x256x1024 : Shape := ⟨3, ![2, 256, 1024]⟩
abbrev S1x1024 : Shape := ⟨2, ![1, 1024]⟩
abbrev S1x8192 : Shape := ⟨2, ![1, 8192]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S1x1x1x128x1024 : Shape := ⟨5, ![1, 1, 1, 128, 1024]⟩
abbrev S128x1024 : Shape := ⟨2, ![128, 1024]⟩
abbrev S256x1024 : Shape := ⟨2, ![256, 1024]⟩
abbrev S1x256x1024 : Shape := ⟨3, ![1, 256, 1024]⟩
abbrev S1x1x1x1x1024 : Shape := ⟨5, ![1, 1, 1, 1, 1024]⟩
abbrev S1x1x1x80x256 : Shape := ⟨5, ![1, 1, 1, 80, 256]⟩
abbrev S80x256 : Shape := ⟨2, ![80, 256]⟩
abbrev S64x256 : Shape := ⟨2, ![64, 256]⟩
abbrev S1x256 : Shape := ⟨2, ![1, 256]⟩
abbrev S256x256 : Shape := ⟨2, ![256, 256]⟩
abbrev S1x256x256 : Shape := ⟨3, ![1, 256, 256]⟩
abbrev S1x1x1024 : Shape := ⟨3, ![1, 1, 1024]⟩
abbrev S1x1x1 : Shape := ⟨3, ![1, 1, 1]⟩
abbrev S1024 : Shape := ⟨1, ![1024]⟩

abbrev nBuf : Space → Nat
  | .hbm => 54
  | .vmem => 16
  | .smem => 0
  | _ => 0

abbrev bufTy : (tb : Table) → Fin (tcTables nBuf tb) → BufTy
  | .hbm, ⟨0, _⟩ => ⟨S2x8x8192x64, .f32⟩
  | .hbm, ⟨1, _⟩ => ⟨S2x2x8192x64, .f32⟩
  | .hbm, ⟨2, _⟩ => ⟨S2x2x8192x64, .f32⟩
  | .hbm, ⟨3, _⟩ => ⟨S_, .f32⟩
  | .hbm, ⟨4, _⟩ => ⟨S2x8x8192x64, .f32⟩
  | .hbm, ⟨5, _⟩ => ⟨S2x8x8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8x8192x64, .f32⟩
  | .hbm, ⟨10, _⟩ => ⟨S2x8x8192x64, .f32⟩
  | .hbm, ⟨11, _⟩ => ⟨S2x2x4x32x256x64, .f32⟩
  | .hbm, ⟨12, _⟩ => ⟨S2x2x32x64x4x256, .f32⟩
  | .hbm, ⟨13, _⟩ => ⟨S2x2x32x64x1024, .f32⟩
  | .hbm, ⟨14, _⟩ => ⟨S2x2x32x64x1024, .f32⟩
  | .hbm, ⟨15, _⟩ => ⟨S_, .f32⟩
  | .hbm, ⟨16, _⟩ => ⟨S2x2x32x1024, .f32⟩
  | .hbm, ⟨17, _⟩ => ⟨S2x2x32x1x1024, .f32⟩
  | .hbm, ⟨18, _⟩ => ⟨S2x2x32x1x1024, .f32⟩
  | .hbm, ⟨19, _⟩ => ⟨S_, .f32⟩
  | .hbm, ⟨20, _⟩ => ⟨S2x32x64x1024, .f32⟩
  | .hbm, ⟨21, _⟩ => ⟨S2x1x32x64x1024, .f32⟩
  | .hbm, ⟨22, _⟩ => ⟨S2x32x64x1024, .f32⟩
  | .hbm, ⟨23, _⟩ => ⟨S2x32x128x1024, .f32⟩
  | .hbm, ⟨24, _⟩ => ⟨S2x1x32x64x1024, .f32⟩
  | .hbm, ⟨25, _⟩ => ⟨S2x32x64x1024, .f32⟩
  | .hbm, ⟨26, _⟩ => ⟨S2x32x128x1024, .f32⟩
  | .hbm, ⟨27, _⟩ => ⟨S2x1x32x128x1024, .f32⟩
  | .hbm, ⟨28, _⟩ => ⟨S2x1x32x128x1024, .f32⟩
  | .hbm, ⟨29, _⟩ => ⟨S2x2x32x128x1024, .f32⟩
  | .hbm, ⟨30, _⟩ => ⟨S2x2x32x128x1024, .bf16⟩
  | .hbm, ⟨31, _⟩ => ⟨S2x8192x2x64, .f32⟩
  | .hbm, ⟨32, _⟩ => ⟨S2x8192x128, .f32⟩
  | .hbm, ⟨33, _⟩ => ⟨S2x2x8192x64, .f32⟩
  | .hbm, ⟨34, _⟩ => ⟨S_, .f32⟩
  | .hbm, ⟨35, _⟩ => ⟨S2x2x8192, .f32⟩
  | .hbm, ⟨36, _⟩ => ⟨S2x2x1x8192, .f32⟩
  | .hbm, ⟨37, _⟩ => ⟨S2x2x32x256x64, .f32⟩
  | .hbm, ⟨38, _⟩ => ⟨S2x2x32x64x256, .f32⟩
  | .hbm, ⟨39, _⟩ => ⟨S16x256, .i32⟩
  | .hbm, ⟨40, _⟩ => ⟨S_, .i32⟩
  | .hbm, ⟨41, _⟩ => ⟨S16x256, .i32⟩
  | .hbm, ⟨42, _⟩ => ⟨S16x256, .i1⟩
  | .hbm, ⟨43, _⟩ => ⟨S_, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S2x2x32x16x256, .f32⟩
  | .hbm, ⟨49, _⟩ => ⟨S2x2x32x16x256, .f32⟩
  | .hbm, ⟨50, _⟩ => ⟨S2x2x32x80x256, .f32⟩
  | .hbm, ⟨51, _⟩ => ⟨S2x2x32x80x256, .bf16⟩
  | .hbm, ⟨52, _⟩ => ⟨S2x8192x128, .bf16⟩
  | .hbm, ⟨53, _⟩ => ⟨S2x8192x512, .bf16⟩
  | .local _ .vmem, ⟨0, _⟩ => ⟨S1x1x32x128x1024, .bf16⟩
  | .local _ .vmem, ⟨1, _⟩ => ⟨S1x1x32x128x1024, .bf16⟩
  | .local _ .vmem, ⟨2, _⟩ => ⟨S1x1x32x1x1024, .f32⟩
  | .local _ .vmem, ⟨3, _⟩ => ⟨S1x1x32x1x1024, .f32⟩
  | .local _ .vmem, ⟨4, _⟩ => ⟨S1x8192x128, .bf16⟩
  | .local _ .vmem, ⟨5, _⟩ => ⟨S1x8192x128, .bf16⟩
  | .local _ .vmem, ⟨6, _⟩ => ⟨S1x1x1x8192, .f32⟩
  | .local _ .vmem, ⟨7, _⟩ => ⟨S1x1x1x8192, .f32⟩
  | .local _ .vmem, ⟨8, _⟩ => ⟨S1x1x32x80x256, .bf16⟩
  | .local _ .vmem, ⟨9, _⟩ => ⟨S1x1x32x80x256, .bf16⟩
  | .local _ .vmem, ⟨10, _⟩ => ⟨S1x8192x256, .bf16⟩
  | .local _ .vmem, ⟨11, _⟩ => ⟨S1x8192x256, .bf16⟩
  | .local _ .vmem, ⟨12, _⟩ => ⟨S80x1024, .f32⟩
  | .local _ .vmem, ⟨13, _⟩ => ⟨S80x1024, .f32⟩
  | .local _ .vmem, ⟨14, _⟩ => ⟨S2x256x1024, .f32⟩
  | .local _ .vmem, ⟨15, _⟩ => ⟨S1x1024, .f32⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def k0_mult1 : BitVec 32 :=
  let c0_i32 : BitVec 32 := 0#32
  c0_i32
@[reducible] def k0_t1_loop : Scf.Loop 32 :=
  let c0_i32_17 : BitVec 32 := 0#32
  let c32_i32 : BitVec 32 := 32#32
  let v19 : BitVec 32 := Scalar.addi c0_i32_17 c32_i32
  let c1_i32 : BitVec 32 := 1#32
  ⟨c0_i32_17, v19, c1_i32⟩
def k0_off1 (k0_t1 : Fin k0_t1_loop.trips) : Fin 5 → Nat :=
  let c0_23 : Index := 0#32
  let c0_24 : Index := 0#32
  let c0_i32_17 : BitVec 32 := 0#32
  let c1_i32 : BitVec 32 := 1#32
  let arg12 : BitVec 32 := Scf.iv c0_i32_17 c1_i32 k0_t1
  let v45 : Index := Scalar.indexCast arg12
  let c0_25 : Index := 0#32
  let c0_26 : Index := 0#32
  ![0, 0, v45.toNat, 0, 0]
def k0_mult2 : BitVec 32 :=
  let c16_i32 : BitVec 32 := 16#32
  let c0_i32_30 : BitVec 32 := 0#32
  let v54 : BitVec 32 := Scalar.muli c16_i32 c0_i32_30
  let c0_i32_31 : BitVec 32 := 0#32
  let v55 : BitVec 32 := Scalar.addi v54 c0_i32_31
  let c1_i32_32 : BitVec 32 := 1#32
  let v56 : BitVec 32 := Scalar.addi v55 c1_i32_32
  let c256_i32 : BitVec 32 := 256#32
  let v57 : BitVec 32 := Scalar.muli v56 c256_i32
  v57
def k0_off2 (c0_i32_31 : BitVec 32) : Fin 3 → Nat :=
  let c0_33 : Index := 0#32
  let c16_i32 : BitVec 32 := 16#32
  let c0_i32_30 : BitVec 32 := 0#32
  let v54 : BitVec 32 := Scalar.muli c16_i32 c0_i32_30
  let v55 : BitVec 32 := Scalar.addi v54 c0_i32_31
  let c1_i32_32 : BitVec 32 := 1#32
  let v56 : BitVec 32 := Scalar.addi v55 c1_i32_32
  let c256_i32 : BitVec 32 := 256#32
  let v57 : BitVec 32 := Scalar.muli v56 c256_i32
  let v58 : BitVec 32 := v57
  let v59 : Index := Scalar.indexCast v58
  let c0_34 : Index := 0#32
  ![0, v59.toNat, 0]
def k0_off3 (k0_t1 : Fin k0_t1_loop.trips) : Fin 5 → Nat :=
  let c0_35 : Index := 0#32
  let c0_36 : Index := 0#32
  let c0_i32_17 : BitVec 32 := 0#32
  let c1_i32 : BitVec 32 := 1#32
  let arg12 : BitVec 32 := Scf.iv c0_i32_17 c1_i32 k0_t1
  let v62 : Index := Scalar.indexCast arg12
  let c0_37 : Index := 0#32
  let c0_38 : Index := 0#32
  ![0, 0, v62.toNat, 0, 0]
def k0_off4 (c0_i32_31 : BitVec 32) : Fin 5 → Nat :=
  let c0_47 : Index := 0#32
  let c0_48 : Index := 0#32
  let c16_i32 : BitVec 32 := 16#32
  let c0_i32_30 : BitVec 32 := 0#32
  let v54 : BitVec 32 := Scalar.muli c16_i32 c0_i32_30
  let v55 : BitVec 32 := Scalar.addi v54 c0_i32_31
  let v76 : Index := Scalar.indexCast v55
  let c0_49 : Index := 0#32
  let c0_50 : Index := 0#32
  ![0, 0, v76.toNat, 0, 0]
def k0_mult3 : BitVec 32 :=
  let c16_i32_54 : BitVec 32 := 16#32
  let c0_i32_30 : BitVec 32 := 0#32
  let v84 : BitVec 32 := Scalar.muli c16_i32_54 c0_i32_30
  let c1_i32_55 : BitVec 32 := 1#32
  let v85 : BitVec 32 := Scalar.addi v84 c1_i32_55
  let c1_i32_56 : BitVec 32 := 1#32
  let v86 : BitVec 32 := Scalar.addi v85 c1_i32_56
  let c256_i32_57 : BitVec 32 := 256#32
  let v87 : BitVec 32 := Scalar.muli v86 c256_i32_57
  v87
def k0_mult4 : BitVec 32 :=
  let c16_i32_80 : BitVec 32 := 16#32
  let c0_i32_30 : BitVec 32 := 0#32
  let v114 : BitVec 32 := Scalar.muli c16_i32_80 c0_i32_30
  let c2_i32 : BitVec 32 := 2#32
  let v115 : BitVec 32 := Scalar.addi v114 c2_i32
  let c1_i32_81 : BitVec 32 := 1#32
  let v116 : BitVec 32 := Scalar.addi v115 c1_i32_81
  let c256_i32_82 : BitVec 32 := 256#32
  let v117 : BitVec 32 := Scalar.muli v116 c256_i32_82
  v117
def k0_mult5 : BitVec 32 :=
  let c16_i32_105 : BitVec 32 := 16#32
  let c0_i32_30 : BitVec 32 := 0#32
  let v144 : BitVec 32 := Scalar.muli c16_i32_105 c0_i32_30
  let c3_i32 : BitVec 32 := 3#32
  let v145 : BitVec 32 := Scalar.addi v144 c3_i32
  let c1_i32_106 : BitVec 32 := 1#32
  let v146 : BitVec 32 := Scalar.addi v145 c1_i32_106
  let c256_i32_107 : BitVec 32 := 256#32
  let v147 : BitVec 32 := Scalar.muli v146 c256_i32_107
  v147
def k0_mult6 : BitVec 32 :=
  let c16_i32_130 : BitVec 32 := 16#32
  let c0_i32_30 : BitVec 32 := 0#32
  let v174 : BitVec 32 := Scalar.muli c16_i32_130 c0_i32_30
  let c4_i32 : BitVec 32 := 4#32
  let v175 : BitVec 32 := Scalar.addi v174 c4_i32
  let c1_i32_131 : BitVec 32 := 1#32
  let v176 : BitVec 32 := Scalar.addi v175 c1_i32_131
  let c256_i32_132 : BitVec 32 := 256#32
  let v177 : BitVec 32 := Scalar.muli v176 c256_i32_132
  v177
def k0_mult7 : BitVec 32 :=
  let c16_i32_155 : BitVec 32 := 16#32
  let c0_i32_30 : BitVec 32 := 0#32
  let v204 : BitVec 32 := Scalar.muli c16_i32_155 c0_i32_30
  let c5_i32 : BitVec 32 := 5#32
  let v205 : BitVec 32 := Scalar.addi v204 c5_i32
  let c1_i32_156 : BitVec 32 := 1#32
  let v206 : BitVec 32 := Scalar.addi v205 c1_i32_156
  let c256_i32_157 : BitVec 32 := 256#32
  let v207 : BitVec 32 := Scalar.muli v206 c256_i32_157
  v207
def k0_mult8 : BitVec 32 :=
  let c16_i32_180 : BitVec 32 := 16#32
  let c0_i32_30 : BitVec 32 := 0#32
  let v234 : BitVec 32 := Scalar.muli c16_i32_180 c0_i32_30
  let c6_i32 : BitVec 32 := 6#32
  let v235 : BitVec 32 := Scalar.addi v234 c6_i32
  let c1_i32_181 : BitVec 32 := 1#32
  let v236 : BitVec 32 := Scalar.addi v235 c1_i32_181
  let c256_i32_182 : BitVec 32 := 256#32
  let v237 : BitVec 32 := Scalar.muli v236 c256_i32_182
  v237
def k0_mult9 : BitVec 32 :=
  let c16_i32_205 : BitVec 32 := 16#32
  let c0_i32_30 : BitVec 32 := 0#32
  let v264 : BitVec 32 := Scalar.muli c16_i32_205 c0_i32_30
  let c7_i32 : BitVec 32 := 7#32
  let v265 : BitVec 32 := Scalar.addi v264 c7_i32
  let c1_i32_206 : BitVec 32 := 1#32
  let v266 : BitVec 32 := Scalar.addi v265 c1_i32_206
  let c256_i32_207 : BitVec 32 := 256#32
  let v267 : BitVec 32 := Scalar.muli v266 c256_i32_207
  v267
def k0_mult10 : BitVec 32 :=
  let c16_i32_230 : BitVec 32 := 16#32
  let c0_i32_30 : BitVec 32 := 0#32
  let v294 : BitVec 32 := Scalar.muli c16_i32_230 c0_i32_30
  let c8_i32 : BitVec 32 := 8#32
  let v295 : BitVec 32 := Scalar.addi v294 c8_i32
  let c1_i32_231 : BitVec 32 := 1#32
  let v296 : BitVec 32 := Scalar.addi v295 c1_i32_231
  let c256_i32_232 : BitVec 32 := 256#32
  let v297 : BitVec 32 := Scalar.muli v296 c256_i32_232
  v297
def k0_mult11 : BitVec 32 :=
  let c16_i32_255 : BitVec 32 := 16#32
  let c0_i32_30 : BitVec 32 := 0#32
  let v324 : BitVec 32 := Scalar.muli c16_i32_255 c0_i32_30
  let c9_i32 : BitVec 32 := 9#32
  let v325 : BitVec 32 := Scalar.addi v324 c9_i32
  let c1_i32_256 : BitVec 32 := 1#32
  let v326 : BitVec 32 := Scalar.addi v325 c1_i32_256
  let c256_i32_257 : BitVec 32 := 256#32
  let v327 : BitVec 32 := Scalar.muli v326 c256_i32_257
  v327
def k0_mult12 : BitVec 32 :=
  let c16_i32_280 : BitVec 32 := 16#32
  let c0_i32_30 : BitVec 32 := 0#32
  let v354 : BitVec 32 := Scalar.muli c16_i32_280 c0_i32_30
  let c10_i32 : BitVec 32 := 10#32
  let v355 : BitVec 32 := Scalar.addi v354 c10_i32
  let c1_i32_281 : BitVec 32 := 1#32
  let v356 : BitVec 32 := Scalar.addi v355 c1_i32_281
  let c256_i32_282 : BitVec 32 := 256#32
  let v357 : BitVec 32 := Scalar.muli v356 c256_i32_282
  v357
def k0_mult13 : BitVec 32 :=
  let c16_i32_305 : BitVec 32 := 16#32
  let c0_i32_30 : BitVec 32 := 0#32
  let v384 : BitVec 32 := Scalar.muli c16_i32_305 c0_i32_30
  let c11_i32 : BitVec 32 := 11#32
  let v385 : BitVec 32 := Scalar.addi v384 c11_i32
  let c1_i32_306 : BitVec 32 := 1#32
  let v386 : BitVec 32 := Scalar.addi v385 c1_i32_306
  let c256_i32_307 : BitVec 32 := 256#32
  let v387 : BitVec 32 := Scalar.muli v386 c256_i32_307
  v387
def k0_mult14 : BitVec 32 :=
  let c16_i32_330 : BitVec 32 := 16#32
  let c0_i32_30 : BitVec 32 := 0#32
  let v414 : BitVec 32 := Scalar.muli c16_i32_330 c0_i32_30
  let c12_i32 : BitVec 32 := 12#32
  let v415 : BitVec 32 := Scalar.addi v414 c12_i32
  let c1_i32_331 : BitVec 32 := 1#32
  let v416 : BitVec 32 := Scalar.addi v415 c1_i32_331
  let c256_i32_332 : BitVec 32 := 256#32
  let v417 : BitVec 32 := Scalar.muli v416 c256_i32_332
  v417
def k0_mult15 : BitVec 32 :=
  let c16_i32_355 : BitVec 32 := 16#32
  let c0_i32_30 : BitVec 32 := 0#32
  let v444 : BitVec 32 := Scalar.muli c16_i32_355 c0_i32_30
  let c13_i32 : BitVec 32 := 13#32
  let v445 : BitVec 32 := Scalar.addi v444 c13_i32
  let c1_i32_356 : BitVec 32 := 1#32
  let v446 : BitVec 32 := Scalar.addi v445 c1_i32_356
  let c256_i32_357 : BitVec 32 := 256#32
  let v447 : BitVec 32 := Scalar.muli v446 c256_i32_357
  v447
def k0_mult16 : BitVec 32 :=
  let c16_i32_380 : BitVec 32 := 16#32
  let c0_i32_30 : BitVec 32 := 0#32
  let v474 : BitVec 32 := Scalar.muli c16_i32_380 c0_i32_30
  let c14_i32 : BitVec 32 := 14#32
  let v475 : BitVec 32 := Scalar.addi v474 c14_i32
  let c1_i32_381 : BitVec 32 := 1#32
  let v476 : BitVec 32 := Scalar.addi v475 c1_i32_381
  let c256_i32_382 : BitVec 32 := 256#32
  let v477 : BitVec 32 := Scalar.muli v476 c256_i32_382
  v477
def k0_mult17 : BitVec 32 :=
  let c16_i32_405 : BitVec 32 := 16#32
  let c0_i32_30 : BitVec 32 := 0#32
  let v504 : BitVec 32 := Scalar.muli c16_i32_405 c0_i32_30
  let c15_i32 : BitVec 32 := 15#32
  let v505 : BitVec 32 := Scalar.addi v504 c15_i32
  let c1_i32_406 : BitVec 32 := 1#32
  let v506 : BitVec 32 := Scalar.addi v505 c1_i32_406
  let c256_i32_407 : BitVec 32 := 256#32
  let v507 : BitVec 32 := Scalar.muli v506 c256_i32_407
  v507
def k0_mult18 : BitVec 32 :=
  let c4352_i32 : BitVec 32 := 4352#32
  c4352_i32
def k0_mult19 : BitVec 32 :=
  let c4608_i32 : BitVec 32 := 4608#32
  c4608_i32
def k0_mult20 : BitVec 32 :=
  let c4864_i32 : BitVec 32 := 4864#32
  c4864_i32
def k0_mult21 : BitVec 32 :=
  let c5120_i32 : BitVec 32 := 5120#32
  c5120_i32
def k0_mult22 : BitVec 32 :=
  let c5376_i32 : BitVec 32 := 5376#32
  c5376_i32
def k0_mult23 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c1_i32_541 : BitVec 32 := 1#32
  let v659 : BitVec 32 := Scalar.subi arg12 c1_i32_541
  let c0_i32_542 : BitVec 32 := 0#32
  let v660 : BitVec 32 := Scalar.maxsi v659 c0_i32_542
  let c256_i32_545 : BitVec 32 := 256#32
  let v678 : BitVec 32 := Scalar.muli v660 c256_i32_545
  v678
def k0_off5 (k0_t1 : Fin k0_t1_loop.trips) : Fin 3 → Nat :=
  let c0_546 : Index := 0#32
  let c0_i32_17 : BitVec 32 := 0#32
  let c1_i32 : BitVec 32 := 1#32
  let arg12 : BitVec 32 := Scf.iv c0_i32_17 c1_i32 k0_t1
  let c1_i32_541 : BitVec 32 := 1#32
  let v659 : BitVec 32 := Scalar.subi arg12 c1_i32_541
  let c0_i32_542 : BitVec 32 := 0#32
  let v660 : BitVec 32 := Scalar.maxsi v659 c0_i32_542
  let c256_i32_545 : BitVec 32 := 256#32
  let v678 : BitVec 32 := Scalar.muli v660 c256_i32_545
  let v679 : BitVec 32 := v678
  let v683 : Index := Scalar.indexCast v679
  let c0_547 : Index := 0#32
  ![0, v683.toNat, 0]
def k0_mult24 : BitVec 32 :=
  let c5632_i32 : BitVec 32 := 5632#32
  c5632_i32
def k0_mult25 : BitVec 32 :=
  let c5888_i32 : BitVec 32 := 5888#32
  c5888_i32
def k0_mult26 : BitVec 32 :=
  let c6144_i32 : BitVec 32 := 6144#32
  c6144_i32
def k0_mult27 : BitVec 32 :=
  let c6400_i32 : BitVec 32 := 6400#32
  c6400_i32
def k0_mult28 : BitVec 32 :=
  let c6656_i32 : BitVec 32 := 6656#32
  c6656_i32
def k0_mult29 : BitVec 32 :=
  let c6912_i32 : BitVec 32 := 6912#32
  c6912_i32
def k0_mult30 : BitVec 32 :=
  let c7168_i32 : BitVec 32 := 7168#32
  c7168_i32
def k0_mult31 : BitVec 32 :=
  let c7424_i32 : BitVec 32 := 7424#32
  c7424_i32
def k0_mult32 : BitVec 32 :=
  let c7680_i32 : BitVec 32 := 7680#32
  c7680_i32
def k0_mult33 : BitVec 32 :=
  let c7936_i32_746 : BitVec 32 := 7936#32
  c7936_i32_746
def k0_mult34 : BitVec 32 :=
  let c0_i32_770 : BitVec 32 := 0#32
  c0_i32_770
def k0_off6 (k0_t1 : Fin k0_t1_loop.trips) : Fin 5 → Nat :=
  let c0_773 : Index := 0#32
  let c0_774 : Index := 0#32
  let c0_i32_17 : BitVec 32 := 0#32
  let c1_i32 : BitVec 32 := 1#32
  let arg12 : BitVec 32 := Scf.iv c0_i32_17 c1_i32 k0_t1
  let c1_i32_769 : BitVec 32 := 1#32
  let v937 : BitVec 32 := Scalar.addi arg12 c1_i32_769
  let c31_i32 : BitVec 32 := 31#32
  let v938 : BitVec 32 := Scalar.minsi v937 c31_i32
  let v943 : Index := Scalar.indexCast v938
  let c0_775 : Index := 0#32
  let c0_776 : Index := 0#32
  ![0, 0, v943.toNat, 0, 0]
@[reducible] def k0_t2_loop : Scf.Loop 32 :=
  let c0_i32_807 : BitVec 32 := 0#32
  let c32_i32_808 : BitVec 32 := 32#32
  let v985 : BitVec 32 := Scalar.addi c0_i32_807 c32_i32_808
  let c1_i32_809 : BitVec 32 := 1#32
  ⟨c0_i32_807, v985, c1_i32_809⟩
def k0_mult35 (k0_t2 : Fin k0_t2_loop.trips) : BitVec 32 :=
  let c0_i32_807 : BitVec 32 := 0#32
  let c1_i32_809 : BitVec 32 := 1#32
  let arg13 : BitVec 32 := Scf.iv c0_i32_807 c1_i32_809 k0_t2
  let c256_i32_811 : BitVec 32 := 256#32
  let v986 : BitVec 32 := Scalar.muli arg13 c256_i32_811
  v986
def k0_off7 (k0_t2 : Fin k0_t2_loop.trips) : Fin 3 → Nat :=
  let c0_812 : Index := 0#32
  let c0_i32_807 : BitVec 32 := 0#32
  let c1_i32_809 : BitVec 32 := 1#32
  let arg13 : BitVec 32 := Scf.iv c0_i32_807 c1_i32_809 k0_t2
  let c256_i32_811 : BitVec 32 := 256#32
  let v986 : BitVec 32 := Scalar.muli arg13 c256_i32_811
  let v987 : BitVec 32 := v986
  let v988 : Index := Scalar.indexCast v987
  let c0_813 : Index := 0#32
  ![0, v988.toNat, 0]
def k0_off8 (k0_t1 : Fin k0_t1_loop.trips) : Fin 5 → Nat :=
  let c0_814 : Index := 0#32
  let c0_815 : Index := 0#32
  let c0_i32_17 : BitVec 32 := 0#32
  let c1_i32 : BitVec 32 := 1#32
  let arg12 : BitVec 32 := Scf.iv c0_i32_17 c1_i32 k0_t1
  let v991 : Index := Scalar.indexCast arg12
  let c0_816 : Index := 0#32
  let c0_817 : Index := 0#32
  ![0, 0, v991.toNat, 0, 0]
def k0_off9 (k0_t2 : Fin k0_t2_loop.trips) : Fin 5 → Nat :=
  let c0_824 : Index := 0#32
  let c0_825 : Index := 0#32
  let c0_i32_807 : BitVec 32 := 0#32
  let c1_i32_809 : BitVec 32 := 1#32
  let arg13 : BitVec 32 := Scf.iv c0_i32_807 c1_i32_809 k0_t2
  let v1008 : Index := Scalar.indexCast arg13
  let c0_826 : Index := 0#32
  let c0_827 : Index := 0#32
  ![0, 0, v1008.toNat, 0, 0]
def k0_mult36 : BitVec 32 :=
  let c7936_i32 : BitVec 32 := 7936#32
  c7936_i32
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x32x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S2x8x8192x64 : Shape := ⟨4, ![2, 8, 8192, 64]⟩
abbrev S2x2x8192x64 : Shape := ⟨4, ![2, 2, 8192, 64]⟩
abbrev S2x2x4x8192x64 : Shape := ⟨5, ![2, 2, 4, 8192, 64]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x8192x2x4x64 : Shape := ⟨5, ![2, 8192, 2, 4, 64]⟩
abbrev S2x8192x512 : Shape := ⟨3, ![2, 8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x8x8192x64, .f32⟩
  | .hbm, ⟨1, _⟩ => ⟨S2x2x8192x64, .f32⟩
  | .hbm, ⟨2, _⟩ => ⟨S2x2x8192x64, .f32⟩
  | .hbm, ⟨3, _⟩ => ⟨S2x2x4x8192x64, .f32⟩
  | .hbm, ⟨4, _⟩ => ⟨S2x2x4x8192x8192, .f32⟩
  | .hbm, ⟨5, _⟩ => ⟨S_, .f32⟩
  | .hbm, ⟨6, _⟩ => ⟨S2x2x4x8192x8192, .f32⟩
  | .hbm, ⟨7, _⟩ => ⟨S2x2x4x8192x8192, .f32⟩
  | .hbm, ⟨8, _⟩ => ⟨S_, .f32⟩
  | .hbm, ⟨9, _⟩ => ⟨S2x2x4x8192, .f32⟩
  | .hbm, ⟨10, _⟩ => ⟨S_, .f32⟩
  | .hbm, ⟨11, _⟩ => ⟨S2x2x4x8192, .f32⟩
  | .hbm, ⟨12, _⟩ => ⟨S2x2x4x8192, .f32⟩
  | .hbm, ⟨13, _⟩ => ⟨S2x2x4x8192x1, .f32⟩
  | .hbm, ⟨14, _⟩ => ⟨S2x2x4x8192x8192, .f32⟩
  | .hbm, ⟨15, _⟩ => ⟨S2x2x4x8192x8192, .f32⟩
  | .hbm, ⟨16, _⟩ => ⟨S2x2x4x8192x8192, .f32⟩
  | .hbm, ⟨17, _⟩ => ⟨S_, .f32⟩
  | .hbm, ⟨18, _⟩ => ⟨S2x2x4x8192, .f32⟩
  | .hbm, ⟨19, _⟩ => ⟨S2x2x4x8192x1, .f32⟩
  | .hbm, ⟨20, _⟩ => ⟨S2x2x4x8192x8192, .f32⟩
  | .hbm, ⟨21, _⟩ => ⟨S2x2x4x8192x8192, .f32⟩
  | .hbm, ⟨22, _⟩ => ⟨S2x2x4x8192x64, .f32⟩
  | .hbm, ⟨23, _⟩ => ⟨S2x8192x2x4x64, .f32⟩
  | .hbm, ⟨24, _⟩ => ⟨S2x8192x512, .f32⟩
  | .hbm, ⟨25, _⟩ => ⟨S2x8192x512, .bf16⟩
  | _, _ => ⟨S2x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Ffn.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x256x1024 : Shape := ⟨3, ![1, 256, 1024]⟩
abbrev S1x8x1024 : Shape := ⟨3, ![1, 8, 1024]⟩
abbrev S272x1024 : Shape := ⟨2, ![272, 1024]⟩
abbrev S256x2816 : Shape := ⟨2, ![256, 2816]⟩
abbrev S2x272x512 : Shape := ⟨3, ![2, 272, 512]⟩
abbrev S8x1024 : Shape := ⟨2, ![8, 1024]⟩
abbrev S8 : Shape := ⟨1, ![8]⟩
abbrev S8x1 : Shape := ⟨2, ![8, 1]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1024x512 : Shape := ⟨2, ![1024, 512]⟩
abbrev S272x512 : Shape := ⟨2, ![272, 512]⟩
abbrev S1x272x512 : Shape := ⟨3, ![1, 272, 512]⟩
abbrev S3x256 : Shape := ⟨2, ![3, 256]⟩
abbrev S3x512 : Shape := ⟨2, ![3, 512]⟩
abbrev S1x512 : Shape := ⟨2, ![1, 512]⟩
abbrev S256x512 : Shape := ⟨2, ![256, 512]⟩
abbrev S1x256 : Shape := ⟨2, ![1, 256]⟩
abbrev S256x256 : Shape := ⟨2, ![256, 256]⟩

abbrev nBuf : Space → Nat
  | .hbm => 19
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1024, .f32⟩
  | .hbm, ⟨17, _⟩ => ⟨S1x1024, .f32⟩
  | .hbm, ⟨18, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S272x1024, .f32⟩
  | .local _ .vmem, ⟨15, _⟩ => ⟨S272x1024, .bf16⟩
  | .local _ .vmem, ⟨16, _⟩ => ⟨S256x2816, .bf16⟩
  | .local _ .vmem, ⟨17, _⟩ => ⟨S2x272x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnIdeal.lean ====
variable {F : FTy → Type} [FloatOps F] [Named F]
def κ : String → Option EReal := fun
  | "gelu_c3" => some ((80338380498831 / 2251799813685248 : ℝ) : EReal)
  | _ => none
-- ==== FfnRefIdeal.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S5632 : Shape := ⟨1, ![5632]⟩
abbrev S2x8192x2816 : Shape := ⟨3, ![2, 8192, 2816]⟩
abbrev S2816x1024 : Shape := ⟨2, ![2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x5632, .f32⟩
  | .hbm, ⟨25, _⟩ => ⟨S2x8192x5632, .f32⟩
  | .hbm, ⟨26, _⟩ => ⟨S_, .i32⟩
  | .hbm, ⟨27, _⟩ => ⟨S_, .f32⟩
  | .hbm, ⟨28, _⟩ => ⟨S2x8194x5632, .f32⟩
  | .hbm, ⟨29, _⟩ => ⟨S2x8192x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S1x1x5632, .f32⟩
  | .hbm, ⟨36, _⟩ => ⟨S5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S1x1x5632, .f32⟩
  | .hbm, ⟨43, _⟩ => ⟨S5632, .f32⟩
  | .hbm, ⟨44, _⟩ => ⟨S1x1x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S5632, .f32⟩
  | .hbm, ⟨49, _⟩ => ⟨S1x1x5632, .f32⟩
  | .hbm, ⟨50, _⟩ => ⟨S2x8192x5632, .f32⟩
  | .hbm, ⟨51, _⟩ => ⟨S2x8192x5632, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S_, .f32⟩
  | .hbm, ⟨65, _⟩ => ⟨S2x8192x2816, .f32⟩
  | .hbm, ⟨66, _⟩ => ⟨S2x8192x2816, .f32⟩
  | .hbm, ⟨67, _⟩ => ⟨S_, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S2816x1024, .f32⟩
  | .hbm, ⟨73, _⟩ => ⟨S2x8192x1024, .f32⟩
  | .hbm, ⟨74, _⟩ => ⟨S1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.AttnIdealTrip.lean ====
/- One trip of the loop over the query blocks, run once at a symbolic trip: what it leaves in the buffers it writes. -/
module
public import proofs.«01_k».proof.Proof.Gen.AttnIdeal.Frame
public import proofs.«01_k».proof.Proof.Gen.AttnIdeal.Loops

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- What a trip of the loop over the query blocks touches, each buffer at its contents. -/
abbrev Held (c : Dev nD) (arg2 : Memref sig .tc .vmem S1x1x32x128x1024 .bf16) (arg3 : Memref sig .tc .vmem S1x1x32x1x1024 .f32) (arg4 : Memref sig .tc .vmem S1x8192x128 .bf16) (arg6 : Memref sig .tc .vmem S1x1x32x80x256 .bf16) (arg7 : Memref sig .tc .vmem S1x8192x256 .bf16) (arg8 : Memref sig .tc .vmem S80x1024 .f32) (arg9 : Memref sig .tc .vmem S80x1024 .f32) (arg10 : Memref sig .tc .vmem S2x256x1024 .f32) (arg11 : Memref sig .tc .vmem S1x1024 .f32) (f2 : BufTy.Contents (Elt F) arg2.view.ty) (f3 : BufTy.Contents (Elt F) arg3.view.ty) (f4 : BufTy.Contents (Elt F) arg4.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) : sProp 𝕄G :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

set_option maxHeartbeats 8000000 in
/-- One trip: it stores the previous block's quotient into the output, leaves one of two accumulators in the result
    buffer (the one of the two shifts the trip chose) and the next block's first scores in the first score slot. -/
def trip (c : Dev nD) (i : grid0.Coords) (arg2 : Memref sig .tc .vmem S1x1x32x128x1024 .bf16) (harg2 : arg2.IsWhole) (arg3 : Memref sig .tc .vmem S1x1x32x1x1024 .f32) (harg3 : arg3.IsWhole) (arg4 : Memref sig .tc .vmem S1x8192x128 .bf16) (harg4 : arg4.IsWhole) (arg5 : Memref sig .tc .vmem S1x1x1x8192 .f32) (harg5 : arg5.IsWhole) (arg6 : Memref sig .tc .vmem S1x1x32x80x256 .bf16) (harg6 : arg6.IsWhole) (arg7 : Memref sig .tc .vmem S1x8192x256 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S2x256x1024 .f32) (harg10 : arg10.IsWhole) (arg11 : Memref sig .tc .vmem S1x1024 .f32) (harg11 : arg11.IsWhole) (v0 : Vec F S1x1x1x8192 .f32) (f2 : BufTy.Contents (Elt F) arg2.view.ty) (f3 : BufTy.Contents (Elt F) arg3.view.ty) (f4 : BufTy.Contents (Elt F) arg4.view.ty) (f6 : BufTy.Contents (Elt F) arg6.view.ty) (k : Fin k0_t1_loop.trips) :
    Σ' (V1 : BufTy.Contents (Elt F) arg10.view.ty → Vec F S80x1024 .f32), Σ' (V2 : BufTy.Contents (Elt F) arg10.view.ty → Vec F S80x1024 .f32),
    { L10 : List (View.Piece (Elt F) S2x256x1024 .f32) // ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      Held c arg2 arg3 arg4 arg6 arg7 arg8 arg9 arg10 arg11 f2 f3 f4 f6 f7 f8 f9 f10 f11 ⊢ wp Idealize.ShloMosaic.frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v0 k PUnit.unit)
        (fun _ => iprop(∃ g7, ∃ g8, ∃ g9, ∃ g10, ∃ g11, ∃ j9, ∃ j10, Held (F := F) c arg2 arg3 arg4 arg6 arg7 arg8 arg9 arg10 arg11 f2 f3 f4 f6 g7 g8 g9 g10 g11
          ∗ ⌜g7 = arg7.view.writes (Elt F) f7 [⟨(Rect.unit (s := S1x8192x256) (k0_off5 k) S1x256x256.size (k0_off5_inb k)), k0_pay60 (View.readAt (Elt F) arg9.view (Rect.unit (s := S80x1024) ![0, 0] S80x1024.size inb_S80x1024_S80x1024_0_0).toLoadRect f9)⟩]⌝
          ∗ ⌜g9 = arg9.view.writes (Elt F) j9 [⟨(Rect.unit (s := S80x1024) ![0, 0] S80x1024.size inb_S80x1024_S80x1024_0_0), k0_pay103 (V1 f10)⟩] ∨ g9 = arg9.view.writes (Elt F) j9 [⟨(Rect.unit (s := S80x1024) ![0, 0] S80x1024.size inb_S80x1024_S80x1024_0_0), k0_pay103 (V2 f10)⟩]⌝
          ∗ ⌜g10 = arg10.view.writes (Elt F) j10 L10⌝)) } := by
  have hk : k.val < 32 := Nat.lt_of_lt_of_le k.isLt k0_t1_abs.2.1
  refine ⟨?_, ?_, ?_, fun E f7 f8 f9 f10 f11 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    iintro ⟨H2, H3, H4, H6, H7, H8, H9, H10, H11⟩
    sl_exec
    beta_reduce
    split
    sl_exec
    sl_step
    iexists _; iexists _; iexists _; iexists _; iexists _; iexists f9; iexists _
    isplitl [H2 H3 H4 H6 H7 H8 H9 H10 H11]
    · isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      iexact H11
    isplitr
    · ipureintro; rfl
    isplitr
    swap
    · ipureintro; rfl
    ipureintro
    left
    refine congrArg (fun z => arg9.view.writes (Elt F) f9 [⟨(Rect.unit (s := S80x1024) ![0, 0] S80x1024.size inb_S80x1024_S80x1024_0_0), k0_pay103 z⟩]) ?_
    exact rfl
    case isFalse =>
      sl_exec
      sl_step
      iexists _; iexists _; iexists _; iexists _; iexists _; iexists f9; iexists _
      isplitl [H2 H3 H4 H6 H7 H8 H9 H10 H11]
      · isplitl [H2]; · iexact H2
        isplitl [H3]; · iexact H3
        isplitl [H4]; · iexact H4
        isplitl [H6]; · iexact H6
        isplitl [H7]; · iexact H7
        isplitl [H8]; · iexact H8
        isplitl [H9]; · iexact H9
        isplitl [H10]; · iexact H10
        iexact H11
      isplitr
      · ipureintro; rfl
      isplitr
      swap
      · ipureintro; rfl
      ipureintro
      right
      refine congrArg (fun z => arg9.view.writes (Elt F) f9 [⟨(Rect.unit (s := S80x1024) ![0, 0] S80x1024.size inb_S80x1024_S80x1024_0_0), k0_pay103 z⟩]) ?_
      exact rfl

end Cert.AttnIdeal.Gen

end
-- ==== Proof.AttnIdealFrame.lean ====
/- The run of the attention body from its trip, the launch and the frame. -/
module
public import proofs.«01_k».proof.Proof.AttnIdealTrip

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- A property of the output, result and score buffers that every trip keeps. -/
structure Keeps (c : Dev nD) (i : grid0.Coords) (arg2 : Memref sig .tc .vmem S1x1x32x128x1024 .bf16) (harg2 : arg2.IsWhole) (arg3 : Memref sig .tc .vmem S1x1x32x1x1024 .f32) (harg3 : arg3.IsWhole) (arg4 : Memref sig .tc .vmem S1x8192x128 .bf16) (harg4 : arg4.IsWhole) (arg5 : Memref sig .tc .vmem S1x1x1x8192 .f32) (harg5 : arg5.IsWhole) (arg6 : Memref sig .tc .vmem S1x1x32x80x256 .bf16) (harg6 : arg6.IsWhole) (arg7 : Memref sig .tc .vmem S1x8192x256 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S2x256x1024 .f32) (harg10 : arg10.IsWhole) (arg11 : Memref sig .tc .vmem S1x1024 .f32) (harg11 : arg11.IsWhole) (v0 : Vec F S1x1x1x8192 .f32) (f2 : BufTy.Contents (Elt F) arg2.view.ty) (f3 : BufTy.Contents (Elt F) arg3.view.ty) (f4 : BufTy.Contents (Elt F) arg4.view.ty) (f6 : BufTy.Contents (Elt F) arg6.view.ty) (P : ℕ → BufTy.Contents (Elt F) arg7.view.ty → BufTy.Contents (Elt F) arg9.view.ty → BufTy.Contents (Elt F) arg10.view.ty → Prop) : Prop where
  start : ∀ g7 g9 j, P 0 g7 g9 (arg10.view.writes (Elt F) j [⟨(Rect.unit (s := S2x256x1024) ![0, 0, 0] S1x256x1024.size inb_S2x256x1024_S1x256x1024_0_0_0), k0_pay93 (View.readAt (Elt F) arg4.view (Rect.unit (s := S1x8192x128) ![0, 0, 0] S1x256x128.size inb_S1x8192x128_S1x256x128_0_0_0).toLoadRect f4) (View.readAt (Elt F) arg2.view (Rect.unit (s := S1x1x32x128x1024) ![0, 0, 0, 0, 0] S1x1x1x128x1024.size inb_S1x1x32x128x1024_S1x1x1x128x1024_0_0_0_0_0).toLoadRect f2)⟩])
  step : ∀ (k : Fin k0_t1_loop.trips) g7 g9 g10 j9 j10 W, P k.val g7 g9 g10 → (W = (trip c i arg2 harg2 arg3 harg3 arg4 harg4 arg5 harg5 arg6 harg6 arg7 harg7 arg8 harg8 arg9 harg9 arg10 harg10 arg11 harg11 v0 f2 f3 f4 f6 k).1 g10 ∨ W = (trip c i arg2 harg2 arg3 harg3 arg4 harg4 arg5 harg5 arg6 harg6 arg7 harg7 arg8 harg8 arg9 harg9 arg10 harg10 arg11 harg11 v0 f2 f3 f4 f6 k).2.1 g10) →
    P (k.val + 1) (arg7.view.writes (Elt F) g7 [⟨(Rect.unit (s := S1x8192x256) (k0_off5 k) S1x256x256.size (k0_off5_inb k)), k0_pay60 (View.readAt (Elt F) arg9.view (Rect.unit (s := S80x1024) ![0, 0] S80x1024.size inb_S80x1024_S80x1024_0_0).toLoadRect g9)⟩]) (arg9.view.writes (Elt F) j9 [⟨(Rect.unit (s := S80x1024) ![0, 0] S80x1024.size inb_S80x1024_S80x1024_0_0), k0_pay103 W⟩])
      (arg10.view.writes (Elt F) j10 (trip c i arg2 harg2 arg3 harg3 arg4 harg4 arg5 harg5 arg6 harg6 arg7 harg7 arg8 harg8 arg9 harg9 arg10 harg10 arg11 harg11 v0 f2 f3 f4 f6 k).2.2.1)

/-- What holds before trip `k`: the inputs at their contents, the rest at contents with the property. -/
abbrev Inv (c : Dev nD) (arg2 : Memref sig .tc .vmem S1x1x32x128x1024 .bf16) (arg3 : Memref sig .tc .vmem S1x1x32x1x1024 .f32) (arg4 : Memref sig .tc .vmem S1x8192x128 .bf16) (arg6 : Memref sig .tc .vmem S1x1x32x80x256 .bf16) (arg7 : Memref sig .tc .vmem S1x8192x256 .bf16) (arg8 : Memref sig .tc .vmem S80x1024 .f32) (arg9 : Memref sig .tc .vmem S80x1024 .f32) (arg10 : Memref sig .tc .vmem S2x256x1024 .f32) (arg11 : Memref sig .tc .vmem S1x1024 .f32) (f2 : BufTy.Contents (Elt F) arg2.view.ty) (f3 : BufTy.Contents (Elt F) arg3.view.ty) (f4 : BufTy.Contents (Elt F) arg4.view.ty) (f6 : BufTy.Contents (Elt F) arg6.view.ty) (P : ℕ → BufTy.Contents (Elt F) arg7.view.ty → BufTy.Contents (Elt F) arg9.view.ty → BufTy.Contents (Elt F) arg10.view.ty → Prop) (k : ℕ) : sProp 𝕄G :=
  iprop(∃ g7, ∃ g8, ∃ g9, ∃ g10, ∃ g11, Held (F := F) c arg2 arg3 arg4 arg6 arg7 arg8 arg9 arg10 arg11 f2 f3 f4 f6 g7 g8 g9 g10 g11 ∗ ⌜P k g7 g9 g10⌝)

set_option maxHeartbeats 4000000 in
/-- A trip keeps it. -/
theorem inv_step (c : Dev nD) (i : grid0.Coords) (arg2 : Memref sig .tc .vmem S1x1x32x128x1024 .bf16) (harg2 : arg2.IsWhole) (arg3 : Memref sig .tc .vmem S1x1x32x1x1024 .f32) (harg3 : arg3.IsWhole) (arg4 : Memref sig .tc .vmem S1x8192x128 .bf16) (harg4 : arg4.IsWhole) (arg5 : Memref sig .tc .vmem S1x1x1x8192 .f32) (harg5 : arg5.IsWhole) (arg6 : Memref sig .tc .vmem S1x1x32x80x256 .bf16) (harg6 : arg6.IsWhole) (arg7 : Memref sig .tc .vmem S1x8192x256 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S2x256x1024 .f32) (harg10 : arg10.IsWhole) (arg11 : Memref sig .tc .vmem S1x1024 .f32) (harg11 : arg11.IsWhole) (v0 : Vec F S1x1x1x8192 .f32) (f2 : BufTy.Contents (Elt F) arg2.view.ty) (f3 : BufTy.Contents (Elt F) arg3.view.ty) (f4 : BufTy.Contents (Elt F) arg4.view.ty) (f6 : BufTy.Contents (Elt F) arg6.view.ty) (P : ℕ → BufTy.Contents (Elt F) arg7.view.ty → BufTy.Contents (Elt F) arg9.view.ty → BufTy.Contents (Elt F) arg10.view.ty → Prop)
    (hP : Keeps c i arg2 harg2 arg3 harg3 arg4 harg4 arg5 harg5 arg6 harg6 arg7 harg7 arg8 harg8 arg9 harg9 arg10 harg10 arg11 harg11 v0 f2 f3 f4 f6 P) (E : Set ℕ) (k : Fin k0_t1_loop.trips) :
    Inv c arg2 arg3 arg4 arg6 arg7 arg8 arg9 arg10 arg11 f2 f3 f4 f6 P k.val ⊢ wp Idealize.ShloMosaic.frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v0 k PUnit.unit) (fun _ => Inv (F := F) c arg2 arg3 arg4 arg6 arg7 arg8 arg9 arg10 arg11 f2 f3 f4 f6 P (k.val + 1)) := by
  iintro ⟨%g7, %g8, %g9, %g10, %g11, HH, %h⟩
  iapply (wp_wand_r Idealize.ShloMosaic.frame (wpE (defs₀ (F := F)) Variants.none (c : Thread nD τ) none) E)
  isplitl [HH]
  · iapply ((trip c i arg2 harg2 arg3 harg3 arg4 harg4 arg5 harg5 arg6 harg6 arg7 harg7 arg8 harg8 arg9 harg9 arg10 harg10 arg11 harg11 v0 f2 f3 f4 f6 k).2.2.2 E g7 g8 g9 g10 g11)
    iexact HH
  iintro %_ ⟨%h7, %h8, %h9, %h10, %h11, %j9, %j10, HH, %e7, %e9, %e10⟩
  iexists h7; iexists h8; iexists h9; iexists h10; iexists h11
  isplitl [HH]; · iexact HH
  ipureintro
  subst e7; subst e10
  rcases e9 with e9 | e9 <;> subst e9
  · exact hP.step k g7 g9 g10 j9 j10 _ h (Or.inl rfl)
  · exact hP.step k g7 g9 g10 j9 j10 _ h (Or.inr rfl)

set_option maxHeartbeats 4000000 in
/-- The body's run, from a property its trips keep. -/
theorem body_run (c : Dev nD) (i : grid0.Coords) (arg2 : Memref sig .tc .vmem S1x1x32x128x1024 .bf16) (harg2 : arg2.IsWhole) (arg3 : Memref sig .tc .vmem S1x1x32x1x1024 .f32) (harg3 : arg3.IsWhole) (arg4 : Memref sig .tc .vmem S1x8192x128 .bf16) (harg4 : arg4.IsWhole) (arg5 : Memref sig .tc .vmem S1x1x1x8192 .f32) (harg5 : arg5.IsWhole) (arg6 : Memref sig .tc .vmem S1x1x32x80x256 .bf16) (harg6 : arg6.IsWhole) (arg7 : Memref sig .tc .vmem S1x8192x256 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S2x256x1024 .f32) (harg10 : arg10.IsWhole) (arg11 : Memref sig .tc .vmem S1x1024 .f32) (harg11 : arg11.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (P : ℕ → BufTy.Contents (Elt F) arg7.view.ty → BufTy.Contents (Elt F) arg9.view.ty → BufTy.Contents (Elt F) arg10.view.ty → Prop)
    (hP : Keeps c i arg2 harg2 arg3 harg3 arg4 harg4 arg5 harg5 arg6 harg6 arg7 harg7 arg8 harg8 arg9 harg9 arg10 harg10 arg11 harg11 (View.readAt (Elt F) arg5.view (Rect.unit (s := S1x1x1x8192) ![0, 0, 0, 0] S1x1x1x8192.size inb_S1x1x1x8192_S1x1x1x8192_0_0_0_0).toLoadRect f5) f2 f3 f4 f6 P) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (E : Set ℕ) (K : PUnit → sProp 𝕄G) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
          ∗ (∃ g9, ∃ g7, ∃ g10, ⌜P k0_t1_loop.trips g7 g9 g10⌝ ∗ (arg7.view.loc (c : Thread nD τ) ↦[arg7.view.set]{fullShare} (arg7.view.writes (Elt F) g7 [⟨(Rect.unit (s := S1x8192x256) ![0, 7936, 0] S1x256x256.size inb_S1x8192x256_S1x256x256_0_7936_0), k0_pay1 (View.readAt (Elt F) arg9.view (Rect.unit (s := S80x1024) ![0, 0] S80x1024.size inb_S80x1024_S80x1024_0_0).toLoadRect g9) (k0_pay104 (View.readAt (Elt F) arg9.view (Rect.unit (s := S80x1024) ![0, 0] S80x1024.size inb_S80x1024_S80x1024_0_0).toLoadRect g9)) (k0_pay105 (View.readAt (Elt F) arg9.view (Rect.unit (s := S80x1024) ![0, 0] S80x1024.size inb_S80x1024_S80x1024_0_0).toLoadRect g9))⟩])))
          ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g))) -∗ K ⟨⟩))
      ⊢ wp Idealize.ShloMosaic.frame (wpE (defs₀ (F := F)) Variants.none (c : Thread nD τ) none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part31_eq_skeleton]
  iintro ⟨H2, H3, H4, H5, H6, H7, H8, H9, H10, H11, Hk⟩
  sl_exec
  rw [wp_bind]
  iapply (Scf.wp_for Idealize.ShloMosaic.frame (wpE (defs₀ (F := F)) Variants.none (c : Thread nD τ) none) E k0_t1_loop.lb k0_t1_loop.ub k0_t1_loop.st k0_t1_ok PUnit.unit _
    (fun n _ => Inv c arg2 arg3 arg4 arg6 arg7 arg8 arg9 arg10 arg11 f2 f3 f4 f6 P n) (fun k _ => inv_step c i arg2 harg2 arg3 harg3 arg4 harg4 arg5 harg5 arg6 harg6 arg7 harg7 arg8 harg8 arg9 harg9 arg10 harg10 arg11 harg11 _ f2 f3 f4 f6 P hP E k))
  isplitl [H2 H3 H4 H6 H7 H8 H9 H10 H11]
  · iexists _; iexists _; iexists _; iexists _; iexists _
    isplitl [H2 H3 H4 H6 H7 H8 H9 H10 H11]
    · isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      iexact H11
    ipureintro; exact hP.start _ _ _
  iintro %_ ⟨%g7, %g8, %g9, %g10, %g11, ⟨H2, H3, H4, H6, H7, H8, H9, H10, H11⟩, %h⟩
  sl_exec
  sl_step
  iapply Hk
  isplitl [H2]; · iexact H2
  isplitl [H3]; · iexact H3
  isplitl [H4]; · iexact H4
  isplitl [H5]; · iexact H5
  isplitl [H6]; · iexact H6
  isplitl [H7]
  · iexists g9; iexists g7; iexists g10
    isplitr
    · ipureintro; exact h
    iexact H7
  isplitl [H8]; · iexists _; iexact H8
  isplitl [H9]; · iexists _; iexact H9
  isplitl [H10]; · iexists _; iexact H10
  iexists _; iexact H11

/-! ## The launch -/

variable (m : (ℓ : Loc nD τ sig) → Buf (Elt F) ℓ) (ρ : Dev nD → PrngReg)

abbrev ms0_0 (t : Fin cfg0.N) : Memref sig .tc .vmem S1x1x32x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x32x80x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x256 .bf16 := win0_5.stage (cfg0.slots t 5)
abbrev hs0_5 (t : Fin cfg0.N) : (ms0_5 t).IsWhole := hstage0_5 ((cfg0.slots t 5).cast nbuf0_5)
abbrev scM0_0 : Memref sig .tc .vmem S80x1024 .f32 := Memref.whole cc0_scratch0
abbrev scM0_1 : Memref sig .tc .vmem S80x1024 .f32 := Memref.whole cc0_scratch1
abbrev scM0_2 : Memref sig .tc .vmem S2x256x1024 .f32 := Memref.whole cc0_scratch2
abbrev scM0_3 : Memref sig .tc .vmem S1x1024 .f32 := Memref.whole cc0_scratch3

/-- The scratch operands as memrefs owned at some contents. -/
theorem PhiA0_eq (c : Dev nD) :
    (Pipeline.ΦA spec0 c : sProp 𝕄G)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's proof data: the arrays as the region finds them, each input's buffer at its block after a point,
    the output's at `O`. -/
def datsO (O : (c : Dev nD) → Fin cfg0.N → Vec F S1x8192x256 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => O c t
  Φ _ := Pipeline.ΦA spec0 c
  q _ := fullShare
  owed _ := 0

variable (O : (c : Dev nD) → Fin cfg0.N → Vec F S1x8192x256 .bf16)

/-- The windows' arrays at the launch. -/
theorem A_eq (c : Dev nD) (w : Fin cfg0.W) : (datsO m O 0 c).A w = V m c (Pipeline.arrRef spec0 w) := by
  dsimp only [datsO]
/-- What window 0 holds after the body. -/
theorem afterO_0 (c : Dev nD) (t : Fin cfg0.N) : (datsO m O 0 c).after 0 t = iblk m c 0 t := by dsimp only [datsO]
/-- What window 1 holds after the body. -/
theorem afterO_1 (c : Dev nD) (t : Fin cfg0.N) : (datsO m O 0 c).after 1 t = iblk m c 1 t := by dsimp only [datsO]
/-- What window 2 holds after the body. -/
theorem afterO_2 (c : Dev nD) (t : Fin cfg0.N) : (datsO m O 0 c).after 2 t = iblk m c 2 t := by dsimp only [datsO]
/-- What window 3 holds after the body. -/
theorem afterO_3 (c : Dev nD) (t : Fin cfg0.N) : (datsO m O 0 c).after 3 t = iblk m c 3 t := by dsimp only [datsO]
/-- What window 4 holds after the body. -/
theorem afterO_4 (c : Dev nD) (t : Fin cfg0.N) : (datsO m O 0 c).after 4 t = iblk m c 4 t := by dsimp only [datsO]
/-- What window 5 holds after the body. -/
theorem afterO_5 (c : Dev nD) (t : Fin cfg0.N) : (datsO m O 0 c).after 5 t = O c t := by dsimp only [datsO]
/-- What window 0 holds before the body. -/
theorem beforeO_0 (c : Dev nD) (t : Fin cfg0.N) (d) : (datsO m O 0 c).before 0 t d = iblk m c 0 t :=
  before0_0_of m (datsO m O 0 c) (A_eq m O c 0) (afterO_0 m O c) t d
/-- What window 1 holds before the body. -/
theorem beforeO_1 (c : Dev nD) (t : Fin cfg0.N) (d) : (datsO m O 0 c).before 1 t d = iblk m c 1 t :=
  before0_1_of m (datsO m O 0 c) (A_eq m O c 1) (afterO_1 m O c) t d
/-- What window 2 holds before the body. -/
theorem beforeO_2 (c : Dev nD) (t : Fin cfg0.N) (d) : (datsO m O 0 c).before 2 t d = iblk m c 2 t :=
  before0_2_of m (datsO m O 0 c) (A_eq m O c 2) (afterO_2 m O c) t d
/-- What window 3 holds before the body. -/
theorem beforeO_3 (c : Dev nD) (t : Fin cfg0.N) (d) : (datsO m O 0 c).before 3 t d = iblk m c 3 t :=
  before0_3_of m (datsO m O 0 c) (A_eq m O c 3) (afterO_3 m O c) t d
/-- What window 4 holds before the body. -/
theorem beforeO_4 (c : Dev nD) (t : Fin cfg0.N) (d) : (datsO m O 0 c).before 4 t d = iblk m c 4 t :=
  before0_4_of m (datsO m O 0 c) (A_eq m O c 4) (afterO_4 m O c) t d

set_option maxHeartbeats 2000000 in
/-- The body at a point, from a property its trips keep: the output's buffer ends at some contents with `R`. -/
theorem sound_gen (c : Dev nD) (t : Fin cfg0.N) (P : ℕ → BufTy.Contents (Elt F) (ms0_5 t).view.ty → BufTy.Contents (Elt F) scM0_1.view.ty → BufTy.Contents (Elt F) scM0_2.view.ty → Prop)
    (R : Vec F S1x8192x256 .bf16 → Prop)
    (hP : Keeps c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (View.readAt (Elt F) (ms0_3 t).view (Rect.unit (s := S1x1x1x8192) ![0, 0, 0, 0] S1x1x1x8192.size inb_S1x1x1x8192_S1x1x1x8192_0_0_0_0).toLoadRect ((hs0_3 t).unread (iblk m c 3 t)))
      ((hs0_0 t).unread (iblk m c 0 t)) ((hs0_1 t).unread (iblk m c 1 t)) ((hs0_2 t).unread (iblk m c 2 t)) ((hs0_4 t).unread (iblk m c 4 t)) P)
    (hR : ∀ g7 g9 g10, P k0_t1_loop.trips g7 g9 g10 → R ((ms0_5 t).view.read (Elt F) ((ms0_5 t).view.writes (Elt F) g7 [⟨(Rect.unit (s := S1x8192x256) ![0, 7936, 0] S1x256x256.size inb_S1x8192x256_S1x256x256_0_7936_0), k0_pay1 (View.readAt (Elt F) scM0_1.view (Rect.unit (s := S80x1024) ![0, 0] S80x1024.size inb_S80x1024_S80x1024_0_0).toLoadRect g9) (k0_pay104 (View.readAt (Elt F) scM0_1.view (Rect.unit (s := S80x1024) ![0, 0] S80x1024.size inb_S80x1024_S80x1024_0_0).toLoadRect g9)) (k0_pay105 (View.readAt (Elt F) scM0_1.view (Rect.unit (s := S80x1024) ![0, 0] S80x1024.size inb_S80x1024_S80x1024_0_0).toLoadRect g9))⟩]))) :
    (iprop(Pipeline.ΦA spec0 c ∗ owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ owns (c : Thread nD τ) (ms0_4 t) fullShare (iblk m c 4 t) ∗ (∃ d, owns (c : Thread nD τ) (ms0_5 t) fullShare d)) : sProp 𝕄G)
      ⊢ wp Idealize.ShloMosaic.frame (wpE (defs₀ (F := F)) Variants.none (c : Thread nD τ) none) Set.univ (bodyAt0 (F := F) t)
        (fun _ => iprop(Pipeline.ΦA spec0 c ∗ owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ owns (c : Thread nD τ) (ms0_4 t) fullShare (iblk m c 4 t) ∗ (∃ d, ⌜R d⌝ ∗ owns (c : Thread nD τ) (ms0_5 t) fullShare d))) := by
  rw [PhiA0_eq]
  unfold bodyAt0
  unfold owns
  iintro ⟨⟨⟨⟨%ds0, %fs0, -, HS0⟩, ⟨%ds1, %fs1, -, HS1⟩, ⟨%ds2, %fs2, -, HS2⟩, ⟨%ds3, %fs3, -, HS3⟩⟩, Hg⟩, ⟨%f0, %hf0, H0⟩, ⟨%f1, %hf1, H1⟩, ⟨%f2, %hf2, H2⟩, ⟨%f3, %hf3, H3⟩, ⟨%f4, %hf4, H4⟩, ⟨%d5, %f5, -, H5⟩⟩
  obtain rfl := (hs0_0 t).eq_unread hf0; obtain rfl := (hs0_1 t).eq_unread hf1; obtain rfl := (hs0_2 t).eq_unread hf2; obtain rfl := (hs0_3 t).eq_unread hf3; obtain rfl := (hs0_4 t).eq_unread hf4
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) _ _ _ _ _ P hP f5 fs0 fs1 fs2 fs3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, ⟨%g9, %g7, %g10, %h, H5⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; iexists _; isplitr
        swap; · iexact HS0
        ipureintro; rfl
      isplitl [HS1]
      · iexists _; iexists _; isplitr
        swap; · iexact HS1
        ipureintro; rfl
      isplitl [HS2]
      · iexists _; iexists _; isplitr
        swap; · iexact HS2
        ipureintro; rfl
      iexists _; iexists _; isplitr
      swap; · iexact HS3
      ipureintro; rfl
    iexact Hg
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  iexists _; isplitr
  · ipureintro; exact hR g7 g9 g10 h
  iexists _; isplitr
  swap; · iexact H5
  ipureintro; rfl

/-- Every property that is always true is kept. -/
theorem keeps_true (c : Dev nD) (t : Fin cfg0.N) v0 f2 f3 f4 f6 : Keeps (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) v0 f2 f3 f4 f6 (fun _ _ _ _ => True) :=
  ⟨fun _ _ _ => trivial, fun _ _ _ _ _ _ _ _ _ => trivial⟩

/-- The windows whose final contents the frame does not need: the output's. -/
def fgt : Fin cfg0.W → Bool := fun w => decide (w = 5)

set_option maxHeartbeats 2000000 in
/-- The body's obligation with the output forgotten. -/
theorem obligation_forget (c : Dev nD) : Pipeline.BodyObligationLoose (datsO (F := F) m (fun _ _ => fun _ => FloatOps.ofBits .bf16 0#16) 0 c) (defs₀ (F := F)) Variants.none () Set.univ fgt := fun t => by
  rw [bigSep_W0, bigSep_W0, defs₀_row]
  simp only [fgt]
  show iprop(Pipeline.ΦA spec0 c ∗ _ ∗ (∃ d, owns (c : Thread nD τ) (ms0_0 t) fullShare ((datsO m _ 0 c).before 0 t d)) ∗ (∃ d, owns (c : Thread nD τ) (ms0_1 t) fullShare ((datsO m _ 0 c).before 1 t d))
    ∗ (∃ d, owns (c : Thread nD τ) (ms0_2 t) fullShare ((datsO m _ 0 c).before 2 t d)) ∗ (∃ d, owns (c : Thread nD τ) (ms0_3 t) fullShare ((datsO m _ 0 c).before 3 t d))
    ∗ (∃ d, owns (c : Thread nD τ) (ms0_4 t) fullShare ((datsO m _ 0 c).before 4 t d)) ∗ (∃ X, owns (c : Thread nD τ) (ms0_5 t) fullShare X))
    ⊢ wp _ _ _ (bodyAt0 t) (fun _ => iprop(Pipeline.ΦA spec0 c ∗ _ ∗ owns (c : Thread nD τ) (ms0_0 t) fullShare ((datsO m _ 0 c).after 0 t) ∗ owns (c : Thread nD τ) (ms0_1 t) fullShare ((datsO m _ 0 c).after 1 t)
    ∗ owns (c : Thread nD τ) (ms0_2 t) fullShare ((datsO m _ 0 c).after 2 t) ∗ owns (c : Thread nD τ) (ms0_3 t) fullShare ((datsO m _ 0 c).after 3 t)
    ∗ owns (c : Thread nD τ) (ms0_4 t) fullShare ((datsO m _ 0 c).after 4 t) ∗ (∃ X, owns (c : Thread nD τ) (ms0_5 t) fullShare X)))
  simp only [beforeO_0, beforeO_1, beforeO_2, beforeO_3, beforeO_4, afterO_0, afterO_1, afterO_2, afterO_3, afterO_4]
  iintro ⟨HP, Ho, ⟨%d0, H0⟩, ⟨%d1, H1⟩, ⟨%d2, H2⟩, ⟨%d3, H3⟩, ⟨%d4, H4⟩, H5⟩
  iapply (wp_wand_r Idealize.ShloMosaic.frame (wpE (defs₀ (F := F)) Variants.none (c : Thread nD τ) none) Set.univ)
  isplitl [HP H0 H1 H2 H3 H4 H5]
  · iapply (sound_gen m c t (fun _ _ _ _ => True) (fun _ => True) (keeps_true c t _ _ _ _ _) (fun _ _ _ _ => trivial))
    isplitl [HP]; · iexact HP
    isplitl [H0]; · iexact H0
    isplitl [H1]; · iexact H1
    isplitl [H2]; · iexact H2
    isplitl [H3]; · iexact H3
    isplitl [H4]; · iexact H4
    iexact H5
  iintro %_ ⟨HP, H0, H1, H2, H3, H4, ⟨%X, %_, H5⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexists X; iexact H5

set_option backward.isDefEq.respectTransparency.types false in
/-- The frame: from any memory with zero counters the program ends, its argument arrays unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (datsO m (fun _ _ => fun _ => FloatOps.ofBits .bf16 0#16)) (0 : Fin 1) launch0 defs₀ Variants.none fgt m ρ main
    (hbody := fun c => obligation_forget m c) (hshare := fun c w => by unfold Dat.share; exact ite_self _)
    (howed := fun _ _ => rfl) (V := V m) (hmain := hmain m Variants.none) (hA := A_eq m _) (hΦ := fun _ _ => rfl)
    (Q' := _) (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.AttnIdeal.Gen

end
-- ==== Proof.AttnAcc.lean ====
/- Hand-written, untrusted: what the attention kernel's payloads compute, entry by entry, and the accumulators over the reals. -/
module
public import proofs.«01_k».proof.Proof.AttnIdealFrame
public import Idealize.ShloMosaic.Lib.Pipeline.ValueKit
public import Idealize.ShloMosaic.Lib.Claim
public import Idealize.ShloMosaic.Lib.Pipeline.ReadBack
@[expose] public section
set_option maxRecDepth 16384
noncomputable section
open Idealize.ShloMosaic Idealize.ShloMosaic.TcCoe Idealize.SL.Sem
open scoped BigOperators
namespace Cert.AttnIdeal.Value
open Cert.AttnIdeal Cert.AttnIdeal.Gen

/-- One entry of a block of scores. -/
theorem pay4_pt (kb : FVec Ideal S1x256x128 .bf16) (qb : FVec Ideal S1x1x1x128x1024 .bf16) (r : Fin 256) (col : Fin 1024) :
    k0_pay4 (F := Ideal) kb qb (ix3 0 r col) = ∑ d : Fin 128, kb (ix3 0 r d) * qb (ix5 0 0 0 d col) := by
  pointwise [k0_pay4]

/-- One entry of the accumulator after one key block. -/
theorem pay32_pt (sh : FVec Ideal S1x1024 .f32) (S : FVec Ideal S1x256x1024 .f32) (A : FVec Ideal S80x1024 .f32) (VB : FVec Ideal S1x1x1x80x256 .bf16) (row : Fin 80) (col : Fin 1024) :
    k0_pay32 (F := Ideal) sh S A VB (ix2 row col) = A (ix2 row col) + ∑ r : Fin 256, VB (ix5 0 0 0 row r) * Ideal.exp2 (S (ix3 0 r col) - sh (ix2 0 col)) := by
  pointwise [k0_pay32]
  rfl

/-- One entry of the shift of the quick path. -/
theorem pay2_pt (x : FVec Ideal S1x1 .f32) (y : FVec Ideal S1x1x1x1x1024 .f32) (col : Fin 1024) :
    k0_pay2 (F := Ideal) x y (ix2 0 col) = y (ix5 0 0 0 0 col) * x (ix2 0 0) := by
  pointwise [k0_pay2]

/-- The greatest key norm. -/
theorem pay92_pt (x : FVec Ideal S1x1x1x8192 .f32)  :
    k0_pay92 (F := Ideal) x (ix2 0 0) = Ideal.sqrt (Finset.fold max (Ideal.ofBits FTy.f32 4286578688#32) (fun s => x (ix4 0 0 0 s)) Finset.univ) := by
  pointwise [k0_pay92]

/-- One entry of the running maximum. -/
theorem pay100_pt (kb : FVec Ideal S1x256x128 .bf16) (qb : FVec Ideal S1x1x1x128x1024 .bf16) (M : FVec Ideal S1x1024 .f32)  (col : Fin 1024) :
    k0_pay100 (F := Ideal) kb qb M (ix2 0 col) = max (M (ix2 0 col))
    (Finset.fold max (Ideal.ofBits FTy.f32 4286578688#32) (fun r => ∑ d, kb (ix3 0 r d) * qb (ix5 0 0 0 d col)) Finset.univ) := by
  pointwise [k0_pay100, k0_pay99]

/-- The stored running maximum is the running maximum. -/
theorem pay102_pt (kb : FVec Ideal S1x256x128 .bf16) (qb : FVec Ideal S1x1x1x128x1024 .bf16) (M : FVec Ideal S1x1024 .f32)  (col : Fin 1024) :
    k0_pay102 (F := Ideal) kb qb M (ix2 0 col) = k0_pay100 (F := Ideal) kb qb M (ix2 0 col) := by
  pointwise [k0_pay102]

/-- One entry of the accumulator of the rescaling path after one key block. -/
theorem pay101_pt (kb : FVec Ideal S1x256x128 .bf16) (qb : FVec Ideal S1x1x1x128x1024 .bf16) (M : FVec Ideal S1x1024 .f32)  (A : FVec Ideal S80x1024 .f32) (VB : FVec Ideal S1x1x1x80x256 .bf16) (row : Fin 80) (col : Fin 1024) :
    k0_pay101 (F := Ideal) kb qb M A VB (ix2 row col) = A (ix2 row col) * Ideal.exp2 (M (ix2 0 col) - k0_pay100 (F := Ideal) kb qb M (ix2 0 col)) + ∑ r : Fin 256, VB (ix5 0 0 0 row r) * Ideal.exp2 ((∑ d : Fin 128, kb (ix3 0 r d) * qb (ix5 0 0 0 d col)) - k0_pay100 (F := Ideal) kb qb M (ix2 0 col)) := by
  pointwise [k0_pay101, k0_pay99]
  rfl

/-- One entry of the stored quotient. -/
theorem pay60_pt (A : FVec Ideal S80x1024 .f32) (r : Fin 256) (g : Fin 4) (d : Fin 64) :
    k0_pay60 (F := Ideal) A (ix3 0 r ⟨64 * g.val + d.val, by omega⟩)
      = Ideal.div (A (ix2 ⟨d.val, by omega⟩ ⟨256 * g.val + r.val, by omega⟩)) (A (ix2 64 ⟨256 * g.val + r.val, by omega⟩)) := by
  pointwise [k0_pay60]
  fin_cases g
  · rw [dif_pos (by show 64 * 0 + d.val < 64; omega)]
    congr 3 <;> first | rfl | (apply Fin.ext; simp)
  · rw [dif_neg (by show ¬ (64 * 1 + d.val < 64); omega), dif_pos (by show 64 * 1 + d.val - 64 < 64; omega)]
    congr 3 <;> first | rfl | (apply Fin.ext; simp)
  · rw [dif_neg (by show ¬ (64 * 2 + d.val < 64); omega), dif_neg (by show ¬ (64 * 2 + d.val - 64 < 64); omega),
      dif_pos (by show 64 * 2 + d.val - 64 - 64 < 64; omega)]
    congr 3 <;> first | rfl | (apply Fin.ext; simp <;> omega)
  · rw [dif_neg (by show ¬ (64 * 3 + d.val < 64); omega), dif_neg (by show ¬ (64 * 3 + d.val - 64 < 64); omega),
      dif_neg (by show ¬ (64 * 3 + d.val - 64 - 64 < 64); omega)]
    congr 3 <;> first | rfl | (apply Fin.ext; simp <;> omega)

/-- The last store's quotient is the same function. -/
theorem pay1_eq (A : FVec Ideal S80x1024 .f32) : k0_pay1 (F := Ideal) A (k0_pay104 A) (k0_pay105 A) = k0_pay60 (F := Ideal) A := rfl

/-- Storing a result leaves it as it is. -/
theorem pay103_pt (A : FVec Ideal S80x1024 .f32) : k0_pay103 (F := Ideal) A = A := by
  funext i
  obtain ⟨a, b, rfl⟩ : ∃ (a : Fin 80) (b : Fin 1024), i = ix2 a b := ⟨i 0, i 1, by funext j; fin_cases j <;> rfl⟩
  pointwise [k0_pay103]

/-- The accumulator starts at zero. -/
theorem pay3_pt (row : Fin 80) (col : Fin 1024) : k0_pay3 (F := Ideal) (ix2 row col) = 0 := by
  pointwise [k0_pay3]

/-- The rescaling path's accumulator starts at zero. -/
theorem pay98_pt (row : Fin 80) (col : Fin 1024) : k0_pay98 (F := Ideal) (ix2 row col) = 0 := by
  pointwise [k0_pay98]

/-- The running maximum starts below every number. -/
theorem pay97_pt (col : Fin 1024) : k0_pay97 (F := Ideal) (ix2 0 col) = ⊥ := by
  pointwise [k0_pay97]
  simp [Ideal.ofBits, Ideal.ieee]

/-- A sum of real numbers, read in the extended reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The greatest of finitely many real numbers and one more value below them is a real number. -/
theorem fold_max_real {n : ℕ} (f : Fin (n + 1) → ℝ) : ∃ m : ℝ, Finset.fold max (⊥ : EReal) (fun i => (f i : EReal)) Finset.univ = (m : EReal) ∧ ∀ i, f i ≤ m := by
  have h : ∀ s : Finset (Fin (n + 1)), s.Nonempty → ∃ m : ℝ, Finset.fold max (⊥ : EReal) (fun i => (f i : EReal)) s = (m : EReal) ∧ ∀ i ∈ s, f i ≤ m := by
    intro s hs
    induction hs using Finset.Nonempty.cons_induction with
    | singleton a => exact ⟨f a, by simp, by simp⟩
    | cons a s ha hs ih =>
      obtain ⟨m, hm, hle⟩ := ih
      refine ⟨max (f a) m, ?_, ?_⟩
      · rw [Finset.fold_cons, hm]
        exact (EReal.coe_strictMono.monotone.map_max).symm
      · intro i hi
        rcases Finset.mem_cons.mp hi with rfl | hi
        · exact le_max_left _ _
        · exact (hle i hi).trans (le_max_right _ _)
  obtain ⟨m, hm, hle⟩ := h Finset.univ Finset.univ_nonempty
  exact ⟨m, hm, fun i => hle i (Finset.mem_univ _)⟩

/-- A factor that is a real number and not negative goes into a sum. -/
theorem sum_mul_real {ι : Type*} (s : Finset ι) (f : ι → EReal) {p : ℝ} (hp : 0 ≤ p) : (∑ i ∈ s, f i) * (p : EReal) = ∑ i ∈ s, f i * (p : EReal) := by
  classical
  induction s using Finset.cons_induction with
  | empty => simp
  | cons a s ha ih =>
    rw [Finset.sum_cons, Finset.sum_cons, EReal.right_distrib_of_nonneg_of_ne_top (by exact_mod_cast hp) (EReal.coe_ne_top p), ih]

/-- A sum of real numbers over any finite set, read in the extended reals. -/
theorem coe_sum_set {ι : Type*} (s : Finset ι) (f : ι → ℝ) : ((∑ i ∈ s, f i : ℝ) : EReal) = ∑ i ∈ s, (f i : EReal) := by
  classical
  induction s using Finset.cons_induction with
  | empty => simp
  | cons a s ha ih => rw [Finset.sum_cons, Finset.sum_cons, EReal.coe_add, ih]

/-- The bits 0xFF800000 read as minus infinity. -/
theorem ninf_eq : Ideal.ofBits FTy.f32 4286578688#32 = ⊥ := by simp [Ideal.ofBits, Ideal.ieee]

/-- One score. -/
def st (kr : ℕ → Fin 256 → Fin 128 → ℝ) (q : Fin 128 → Fin 1024 → ℝ) (n : ℕ) (r : Fin 256) (col : Fin 1024) : ℝ := ∑ d, kr n r d * q d col

/-- The first `n` key blocks' weighted sum at the shift `c`. -/
def acc (kr : ℕ → Fin 256 → Fin 128 → ℝ) (w : ℕ → Fin 80 → Fin 256 → EReal) (q : Fin 128 → Fin 1024 → ℝ) (c : Fin 1024 → ℝ) (n : ℕ) (row : Fin 80) (col : Fin 1024) : EReal :=
  ∑ j ∈ Finset.range n, ∑ r, w j row r * (((2 : ℝ) ^ (st kr q j r col - c col) : ℝ) : EReal)

variable (kr : ℕ → Fin 256 → Fin 128 → ℝ) (w : ℕ → Fin 80 → Fin 256 → EReal) (q : Fin 128 → Fin 1024 → ℝ)

/-- A vector holding the scores of block `n`. -/
def IsS (n : ℕ) (S : FVec Ideal S1x256x1024 .f32) : Prop := ∀ r col, S (ix3 0 r col) = (st kr q n r col : EReal)
/-- A vector holding the keys of block `n`. -/
def IsK (n : ℕ) (S : FVec Ideal S1x256x128 .bf16) : Prop := ∀ r d, S (ix3 0 r d) = (kr n r d : EReal)
/-- A vector holding the queries. -/
def IsQ (S : FVec Ideal S1x1x1x128x1024 .bf16) : Prop := ∀ d col, S (ix5 0 0 0 d col) = (q d col : EReal)
/-- A vector holding the values of block `n`. -/
def IsV (n : ℕ) (S : FVec Ideal S1x1x1x80x256 .bf16) : Prop := ∀ row r, S (ix5 0 0 0 row r) = w n row r
/-- A vector holding the sum over the first `n` blocks. -/
def IsA (c : Fin 1024 → ℝ) (n : ℕ) (S : FVec Ideal S80x1024 .f32) : Prop := ∀ row col, S (ix2 row col) = acc kr w q c n row col

variable {kr w q}

/-- The product of a key row and a query column is a score. -/
theorem sum_st {n : ℕ} {kb : FVec Ideal S1x256x128 .bf16} {qb : FVec Ideal S1x1x1x128x1024 .bf16} (hk : IsK kr n kb) (hq : IsQ q qb) (r : Fin 256) (col : Fin 1024) :
    (∑ d : Fin 128, kb (ix3 0 r d) * qb (ix5 0 0 0 d col)) = (st kr q n r col : EReal) := by
  simp only [hk r, hq _ col, ← EReal.coe_mul]
  exact (coe_sum _).symm

/-- Scores from keys and queries. -/
theorem isS {n : ℕ} {kb : FVec Ideal S1x256x128 .bf16} {qb : FVec Ideal S1x1x1x128x1024 .bf16} (hk : IsK kr n kb) (hq : IsQ q qb) : IsS kr q n (k0_pay4 (F := Ideal) kb qb) := by
  intro r col
  rw [pay4_pt, sum_st hk hq]

/-- The product of the values and the weights of a block. -/
theorem sum_vt (c : Fin 1024 → ℝ) {n : ℕ} {VB : FVec Ideal S1x1x1x80x256 .bf16} (hv : IsV w n VB) (s : Fin 256 → EReal) (row : Fin 80) (col : Fin 1024)
    (hs : ∀ r, s r = ((st kr q n r col - c col : ℝ) : EReal)) :
    (∑ r : Fin 256, VB (ix5 0 0 0 row r) * Ideal.exp2 (s r)) = ∑ r, w n row r * (((2 : ℝ) ^ (st kr q n r col - c col) : ℝ) : EReal) := by
  refine Finset.sum_congr rfl fun r _ => ?_
  rw [hv, hs]
  rfl

/-- The quick path's step. -/
theorem isA {c : Fin 1024 → ℝ} {n : ℕ} {sh : FVec Ideal S1x1024 .f32} {S : FVec Ideal S1x256x1024 .f32} {A : FVec Ideal S80x1024 .f32} {VB : FVec Ideal S1x1x1x80x256 .bf16}
    (hsh : ∀ col, sh (ix2 0 col) = (c col : EReal)) (hS : IsS kr q n S) (hA : IsA kr w q c n A) (hV : IsV w n VB) : IsA kr w q c (n + 1) (k0_pay32 (F := Ideal) sh S A VB) := by
  intro row col
  rw [pay32_pt, hA, sum_vt c hV (fun r => S (ix3 0 r col) - sh (ix2 0 col)) row col (fun r => by rw [hS, hsh, EReal.coe_sub]), acc, acc, Finset.sum_range_succ]

/-- The quick path's start. -/
theorem isA0 (c : Fin 1024 → ℝ) : IsA kr w q c 0 (k0_pay3 (F := Ideal)) := by
  intro row col
  rw [pay3_pt]; simp [acc]

/-- The state of the rescaling path after `n` blocks. -/
def IsE (kr : ℕ → Fin 256 → Fin 128 → ℝ) (w : ℕ → Fin 80 → Fin 256 → EReal) (q : Fin 128 → Fin 1024 → ℝ) (n : ℕ) (A : FVec Ideal S80x1024 .f32) (M : FVec Ideal S1x1024 .f32) : Prop :=
  (n = 0 ∧ (∀ row col, A (ix2 row col) = 0) ∧ ∀ col, M (ix2 0 col) = ⊥) ∨ ∃ c : Fin 1024 → ℝ, (∀ col, M (ix2 0 col) = (c col : EReal)) ∧ IsA kr w q c n A

/-- The rescaling path's step. -/
theorem isE {n : ℕ} {kb : FVec Ideal S1x256x128 .bf16} {qb : FVec Ideal S1x1x1x128x1024 .bf16} {A : FVec Ideal S80x1024 .f32} {M : FVec Ideal S1x1024 .f32} {VB : FVec Ideal S1x1x1x80x256 .bf16}
    (hk : IsK kr n kb) (hq : IsQ q qb) (hV : IsV w n VB) (h : IsE kr w q n A M) :
    IsE kr w q (n + 1) (k0_pay101 (F := Ideal) kb qb M A VB) (k0_pay102 (F := Ideal) kb qb M) := by
  have hf : ∀ col, ∃ m : ℝ, (Finset.fold max (Ideal.ofBits FTy.f32 4286578688#32) (fun r => ∑ d, kb (ix3 0 r d) * qb (ix5 0 0 0 d col)) Finset.univ) = (m : EReal) := fun col => by
    obtain ⟨m, hm, -⟩ := fold_max_real (n := 255) fun r => st kr q n r col
    exact ⟨m, by rw [ninf_eq, ← hm]; congr 1; funext r; exact sum_st hk hq r col⟩
  choose b hb using hf
  rcases h with ⟨rfl, hA, hM⟩ | ⟨c, hM, hA⟩
  · refine Or.inr ⟨b, fun col => ?_, fun row col => ?_⟩
    · rw [pay102_pt, pay100_pt, hM, hb]; exact max_eq_right bot_le
    · have hp : k0_pay100 (F := Ideal) kb qb M (ix2 0 col) = (b col : EReal) := by rw [pay100_pt, hM, hb]; exact max_eq_right bot_le
      rw [pay101_pt, hp, hA, zero_mul, zero_add, sum_vt b hV _ row col (fun r => by rw [sum_st hk hq, EReal.coe_sub])]
      simp [acc]
  · refine Or.inr ⟨fun col => max (c col) (b col), fun col => ?_, fun row col => ?_⟩
    · rw [pay102_pt, pay100_pt, hM, hb]; exact (EReal.coe_strictMono.monotone.map_max).symm
    · have hp : k0_pay100 (F := Ideal) kb qb M (ix2 0 col) = ((max (c col) (b col) : ℝ) : EReal) := by
        rw [pay100_pt, hM, hb]; exact (EReal.coe_strictMono.monotone.map_max).symm
      rw [pay101_pt, hp, hA, hM, sum_vt (fun col => max (c col) (b col)) hV _ row col (fun r => by rw [sum_st hk hq, EReal.coe_sub]), ← EReal.coe_sub]
      show _ * (((2 : ℝ) ^ (c col - max (c col) (b col)) : ℝ) : EReal) + _ = _
      have hp0 : (0 : ℝ) ≤ (2 : ℝ) ^ (c col - max (c col) (b col)) := Real.rpow_nonneg (by norm_num) _
      rw [acc, acc, Finset.sum_range_succ, sum_mul_real _ _ hp0]
      congr 1
      refine Finset.sum_congr rfl fun j _ => ?_
      rw [sum_mul_real _ _ hp0]
      refine Finset.sum_congr rfl fun r _ => ?_
      rw [mul_assoc, ← EReal.coe_mul, ← Real.rpow_add (by norm_num)]
      congr 3; ring

end Cert.AttnIdeal.Value
end
-- ==== Proof.AttnChain.lean ====
/- Hand-written, untrusted: both of a trip's accumulators, key block by key block. -/
module
public import proofs.«01_k».proof.Proof.AttnAcc
public import Idealize.ShloMosaic.Lib.WritesUnit
public import Idealize.ShloMosaic.Lib.VecWindow
public import Idealize.ShloMosaic.Lib.WholeRead
@[expose] public section
set_option maxRecDepth 16384
noncomputable section
open Idealize.ShloMosaic Idealize.ShloMosaic.TcCoe Idealize.SL.Sem
open scoped BigOperators
namespace Cert.AttnIdeal.Value
open Cert.AttnIdeal Cert.AttnIdeal.Gen

/-- The keys of a block as real numbers, by key block. -/
def KR (X : FVec Ideal S1x8192x128 .bf16) (n : ℕ) (r : Fin 256) (d : Fin 128) : ℝ := (X (ix3 0 ⟨(256 * n + r.val) % 8192, Nat.mod_lt _ (by decide)⟩ d)).toReal
/-- The values of a block as real numbers, by key block. -/
def VR (X : FVec Ideal S1x1x32x80x256 .bf16) (n : ℕ) (row : Fin 80) (r : Fin 256) : EReal := X (ix5 0 0 ⟨n % 32, Nat.mod_lt _ (by decide)⟩ row r)
/-- The queries of a block as real numbers, by query block. -/
def QR (X : FVec Ideal S1x1x32x128x1024 .bf16) (t : ℕ) (d : Fin 128) (col : Fin 1024) : ℝ := (X (ix5 0 0 ⟨t % 32, Nat.mod_lt _ (by decide)⟩ d col)).toReal

/-- A real number read back. -/
theorem real_back {x : EReal} (h : ∃ r : ℝ, x = (r : EReal)) : x = (x.toReal : EReal) := by
  obtain ⟨r, rfl⟩ := h; rfl

/-- Where this load or store begins. -/
theorem off1_eq : ∀ k : Fin k0_t1_loop.trips, k0_off1 k = ![0, 0, k.val, 0, 0] := by decide +kernel
/-- Where this load or store begins. -/
theorem off3_eq : ∀ k : Fin k0_t1_loop.trips, k0_off3 k = ![0, 0, k.val, 0, 0] := by decide +kernel
/-- Where this load or store begins. -/
theorem off8_eq : ∀ k : Fin k0_t1_loop.trips, k0_off8 k = ![0, 0, k.val, 0, 0] := by decide +kernel
/-- Where this load or store begins. -/
theorem off5_eq : ∀ k : Fin k0_t1_loop.trips, k0_off5 k = ![0, 256 * (k.val - 1), 0] := by decide +kernel
/-- Where this load or store begins. -/
theorem off6_eq : ∀ k : Fin k0_t1_loop.trips, k0_off6 k = ![0, 0, min (k.val + 1) 31, 0, 0] := by decide +kernel
/-- Where this load or store begins. -/
theorem off7_eq : ∀ k : Fin k0_t2_loop.trips, k0_off7 k = ![0, 256 * k.val, 0] := by decide +kernel
/-- Where this load or store begins. -/
theorem off9_eq : ∀ k : Fin k0_t2_loop.trips, k0_off9 k = ![0, 0, k.val, 0, 0] := by decide +kernel
/-- A trip index is below 32. -/
theorem t1_lt (k : Fin k0_t1_loop.trips) : k.val < 32 := Nat.lt_of_lt_of_le k.isLt k0_t1_abs.2.1
/-- A trip index is below 32. -/
theorem t2_lt (k : Fin k0_t2_loop.trips) : k.val < 32 := Nat.lt_of_lt_of_le k.isLt k0_t2_abs.2.1

/-- A load of the keys of block `n`. -/
theorem kblk (a : Memref sig .tc .vmem S1x8192x128 .bf16) (h : a.IsWhole) (X : FVec Ideal S1x8192x128 .bf16) (hX : ∀ i, ∃ r : ℝ, X i = (r : EReal))
    (n : ℕ) (hn : n < 32) {off : Fin 3 → ℕ} (inb) (e : off = ![0, 256 * n, 0]) :
    IsK (KR X) n (View.readAt (Elt Ideal) a.view (Rect.unit (s := S1x8192x128) off S1x256x128.size inb).toLoadRect (h.unread X)) := by
  subst e
  intro r d
  rw [Memref.IsWhole.readAt_unread, KR, ← real_back (hX _)]
  congr 1
  funext j
  fin_cases j <;> apply Fin.ext
  · simp [Rect.unit, LoadRect.idx]
  · have : (256 * n + r.val) % 8192 = 256 * n + r.val := Nat.mod_eq_of_lt (by omega)
    simp [Rect.unit, LoadRect.idx, this]
  · simp [Rect.unit, LoadRect.idx]

/-- A load of the values of block `n`. -/
theorem vblk (a : Memref sig .tc .vmem S1x1x32x80x256 .bf16) (h : a.IsWhole) (X : FVec Ideal S1x1x32x80x256 .bf16)
    (n : ℕ) (hn : n < 32) {off : Fin 5 → ℕ} (inb) (e : off = ![0, 0, n, 0, 0]) :
    IsV (VR X) n (View.readAt (Elt Ideal) a.view (Rect.unit (s := S1x1x32x80x256) off S1x1x1x80x256.size inb).toLoadRect (h.unread X)) := by
  subst e
  intro r d
  rw [Memref.IsWhole.readAt_unread, VR]
  congr 1
  have : n % 32 = n := Nat.mod_eq_of_lt hn
  funext j
  fin_cases j <;> apply Fin.ext <;> simp [Rect.unit, LoadRect.idx, this]

/-- A load of the queries of block `n`. -/
theorem qblk (a : Memref sig .tc .vmem S1x1x32x128x1024 .bf16) (h : a.IsWhole) (X : FVec Ideal S1x1x32x128x1024 .bf16) (hX : ∀ i, ∃ r : ℝ, X i = (r : EReal))
    (n : ℕ) (hn : n < 32) {off : Fin 5 → ℕ} (inb) (e : off = ![0, 0, n, 0, 0]) :
    IsQ (QR X n) (View.readAt (Elt Ideal) a.view (Rect.unit (s := S1x1x32x128x1024) off S1x1x1x128x1024.size inb).toLoadRect (h.unread X)) := by
  subst e
  intro r d
  rw [Memref.IsWhole.readAt_unread, QR, ← real_back (hX _)]
  congr 1
  have : n % 32 = n := Nat.mod_eq_of_lt hn
  funext j
  fin_cases j <;> apply Fin.ext <;> simp [Rect.unit, LoadRect.idx, this]

/-- The second newest store is read back where the newest lies elsewhere. -/
theorem second {sig : RefSig} {κ : Kind} {sp : Space} {s : Shape} {e : EltTy} {Val : EltTy → Type} [∀ e, Nonempty (Val e)] (v : View sig κ sp s e) {o0 o1 size : Fin s.rank → ℕ}
    (h0 : ∀ a, o0 a + size a ≤ s.size a) (h1 : ∀ a, o1 a + size a ≤ s.size a) (h2 : ∀ a, o1 a + size a ≤ s.size a)
    (w0 : (Rect.unit (s := s) o0 size h0).shape.Idx → Val e) (w1 : (Rect.unit (s := s) o1 size h1).shape.Idx → Val e) (L : List (View.Piece Val s e))
    (a : Fin s.rank) (hd : o1 a + size a ≤ o0 a ∨ o0 a + size a ≤ o1 a) :
    v.readCov (⟨Rect.unit (s := s) o0 size h0, w0⟩ :: ⟨Rect.unit (s := s) o1 size h1, w1⟩ :: L) (Rect.unit (s := s) o1 size h2).toLoadRect = w1 := by
  funext x
  have hx : ∀ b, (((Rect.unit (s := s) o1 size h2).toLoadRect.idx x) b).val = o1 b + (x b).val := fun b => by
    show o1 b + 1 * (x b).val = _; rw [Nat.one_mul]
  show v.read Val (v.writes Val v.junk _) ((Rect.unit (s := s) o1 size h2).toLoadRect.idx x) = w1 x
  rw [View.read_writes_cons_unit_of_not_mem v v.junk h0 w0 _ _ rfl a (by rw [hx]; have : (x a).val < size a := (x a).isLt; omega)]
  exact View.read_writes_cons_unit_of_mem v v.junk h1 w1 L _ x rfl hx

variable {arg2 : Memref sig .tc .vmem S1x1x32x128x1024 .bf16} {harg2 : arg2.IsWhole} {arg3 : Memref sig .tc .vmem S1x1x32x1x1024 .f32} {harg3 : arg3.IsWhole} {arg4 : Memref sig .tc .vmem S1x8192x128 .bf16} {harg4 : arg4.IsWhole} {arg5 : Memref sig .tc .vmem S1x1x1x8192 .f32} {harg5 : arg5.IsWhole} {arg6 : Memref sig .tc .vmem S1x1x32x80x256 .bf16} {harg6 : arg6.IsWhole} {arg7 : Memref sig .tc .vmem S1x8192x256 .bf16} {harg7 : arg7.IsWhole} {arg8 : Memref sig .tc .vmem S80x1024 .f32} {harg8 : arg8.IsWhole} {arg9 : Memref sig .tc .vmem S80x1024 .f32} {harg9 : arg9.IsWhole} {arg10 : Memref sig .tc .vmem S2x256x1024 .f32} {harg10 : arg10.IsWhole} {arg11 : Memref sig .tc .vmem S1x1024 .f32} {harg11 : arg11.IsWhole}
  (v0 : Vec Ideal S1x1x1x8192 .f32) (X2 : FVec Ideal S1x1x32x128x1024 .bf16) (X3 : FVec Ideal S1x1x32x1x1024 .f32) (X4 : FVec Ideal S1x8192x128 .bf16) (X6 : FVec Ideal S1x1x32x80x256 .bf16)
  (k : Fin k0_t1_loop.trips) (f10 : BufTy.Contents (Elt Ideal) arg10.view.ty)

/-- The scores of key block 1, as the trip holds them. -/
theorem s1 (hx2 : ∀ i, ∃ r : ℝ, X2 i = (r : EReal)) (hx4 : ∀ i, ∃ r : ℝ, X4 i = (r : EReal)) :
    IsS (KR X4) (QR X2 k.val) 1 (trip.sl.v99 (F := Ideal) arg2 arg4 arg10 (harg2.unread X2) (harg4.unread X4) k) := by
  rw [show trip.sl.v99 (F := Ideal) arg2 arg4 arg10 (harg2.unread X2) (harg4.unread X4) k
    = k0_pay4 (F := Ideal) (View.readAt (Elt Ideal) arg4.view (Rect.unit (s := S1x8192x128) ![0, 256, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 1 (by decide) _ (by decide)) (qblk arg2 harg2 X2 hx2 k.val (t1_lt k) _ (off3_eq k))

/-- The scores of key block 2, as the trip holds them. -/
theorem s2 (hx2 : ∀ i, ∃ r : ℝ, X2 i = (r : EReal)) (hx4 : ∀ i, ∃ r : ℝ, X4 i = (r : EReal)) :
    IsS (KR X4) (QR X2 k.val) 2 (trip.sl.v129 (F := Ideal) arg2 arg4 arg10 (harg2.unread X2) (harg4.unread X4) k) := by
  rw [show trip.sl.v129 (F := Ideal) arg2 arg4 arg10 (harg2.unread X2) (harg4.unread X4) k
    = k0_pay4 (F := Ideal) (View.readAt (Elt Ideal) arg4.view (Rect.unit (s := S1x8192x128) ![0, 512, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 2 (by decide) _ (by decide)) (qblk arg2 harg2 X2 hx2 k.val (t1_lt k) _ (off3_eq k))

/-- The scores of key block 3, as the trip holds them. -/
theorem s3 (hx2 : ∀ i, ∃ r : ℝ, X2 i = (r : EReal)) (hx4 : ∀ i, ∃ r : ℝ, X4 i = (r : EReal)) :
    IsS (KR X4) (QR X2 k.val) 3 (trip.sl.v159 (F := Ideal) arg2 arg4 arg10 (harg2.unread X2) (harg4.unread X4) k) := by
  rw [show trip.sl.v159 (F := Ideal) arg2 arg4 arg10 (harg2.unread X2) (harg4.unread X4) k
    = k0_pay4 (F := Ideal) (View.readAt (Elt Ideal) arg4.view (Rect.unit (s := S1x8192x128) ![0, 768, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 3 (by decide) _ (by decide)) (qblk arg2 harg2 X2 hx2 k.val (t1_lt k) _ (off3_eq k))

/-- The scores of key block 4, as the trip holds them. -/
theorem s4 (hx2 : ∀ i, ∃ r : ℝ, X2 i = (r : EReal)) (hx4 : ∀ i, ∃ r : ℝ, X4 i = (r : EReal)) :
    IsS (KR X4) (QR X2 k.val) 4 (trip.sl.v189 (F := Ideal) arg2 arg4 arg10 (harg2.unread X2) (harg4.unread X4) k) := by
  rw [show trip.sl.v189 (F := Ideal) arg2 arg4 arg10 (harg2.unread X2) (harg4.unread X4) k
    = k0_pay4 (F := Ideal) (View.readAt (Elt Ideal) arg4.view (Rect.unit (s := S1x8192x128) ![0, 1024, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 4 (by decide) _ (by decide)) (qblk arg2 harg2 X2 hx2 k.val (t1_lt k) _ (off3_eq k))

/-- The scores of key block 5, as the trip holds them. -/
theorem s5 (hx2 : ∀ i, ∃ r : ℝ, X2 i = (r : EReal)) (hx4 : ∀ i, ∃ r : ℝ, X4 i = (r : EReal)) :
    IsS (KR X4) (QR X2 k.val) 5 (trip.sl.v219 (F := Ideal) arg2 arg4 arg10 (harg2.unread X2) (harg4.unread X4) k) := by
  rw [show trip.sl.v219 (F := Ideal) arg2 arg4 arg10 (harg2.unread X2) (harg4.unread X4) k
    = k0_pay4 (F := Ideal) (View.readAt (Elt Ideal) arg4.view (Rect.unit (s := S1x8192x128) ![0, 1280, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 5 (by decide) _ (by decide)) (qblk arg2 harg2 X2 hx2 k.val (t1_lt k) _ (off3_eq k))

/-- The scores of key block 6, as the trip holds them. -/
theorem s6 (hx2 : ∀ i, ∃ r : ℝ, X2 i = (r : EReal)) (hx4 : ∀ i, ∃ r : ℝ, X4 i = (r : EReal)) :
    IsS (KR X4) (QR X2 k.val) 6 (trip.sl.v249 (F := Ideal) arg2 arg4 arg10 (harg2.unread X2) (harg4.unread X4) k) := by
  rw [show trip.sl.v249 (F := Ideal) arg2 arg4 arg10 (harg2.unread X2) (harg4.unread X4) k
    = k0_pay4 (F := Ideal) (View.readAt (Elt Ideal) arg4.view (Rect.unit (s := S1x8192x128) ![0, 1536, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 6 (by decide) _ (by decide)) (qblk arg2 harg2 X2 hx2 k.val (t1_lt k) _ (off3_eq k))

/-- The scores of key block 7, as the trip holds them. -/
theorem s7 (hx2 : ∀ i, ∃ r : ℝ, X2 i = (r : EReal)) (hx4 : ∀ i, ∃ r : ℝ, X4 i = (r : EReal)) :
    IsS (KR X4) (QR X2 k.val) 7 (trip.sl.v279 (F := Ideal) arg2 arg4 arg10 (harg2.unread X2) (harg4.unread X4) k) := by
  rw [show trip.sl.v279 (F := Ideal) arg2 arg4 arg10 (harg2.unread X2) (harg4.unread X4) k
    = k0_pay4 (F := Ideal) (View.readAt (Elt Ideal) arg4.view (Rect.unit (s := S1x8192x128) ![0, 1792, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 7 (by decide) _ (by decide)) (qblk arg2 harg2 X2 hx2 k.val (t1_lt k) _ (off3_eq k))

/-- The scores of key block 8, as the trip holds them. -/
theorem s8 (hx2 : ∀ i, ∃ r : ℝ, X2 i = (r : EReal)) (hx4 : ∀ i, ∃ r : ℝ, X4 i = (r : EReal)) :
    IsS (KR X4) (QR X2 k.val) 8 (trip.sl.v309 (F := Ideal) arg2 arg4 arg10 (harg2.unread X2) (harg4.unread X4) k) := by
  rw [show trip.sl.v309 (F := Ideal) arg2 arg4 arg10 (harg2.unread X2) (harg4.unread X4) k
    = k0_pay4 (F := Ideal) (View.readAt (Elt Ideal) arg4.view (Rect.unit (s := S1x8192x128) ![0, 2048, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 8 (by decide) _ (by decide)) (qblk arg2 harg2 X2 hx2 k.val (t1_lt k) _ (off3_eq k))

/-- The scores of key block 9, as the trip holds them. -/
theorem s9 (hx2 : ∀ i, ∃ r : ℝ, X2 i = (r : EReal)) (hx4 : ∀ i, ∃ r : ℝ, X4 i = (r : EReal)) :
    IsS (KR X4) (QR X2 k.val) 9 (trip.sl.v339 (F := Ideal) arg2 arg4 arg10 (harg2.unread X2) (harg4.unread X4) k) := by
  rw [show trip.sl.v339 (F := Ideal) arg2 arg4 arg10 (harg2.unread X2) (harg4.unread X4) k
    = k0_pay4 (F := Ideal) (View.readAt (Elt Ideal) arg4.view (Rect.unit (s := S1x8192x128) ![0, 2304, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 9 (by decide) _ (by decide)) (qblk arg2 harg2 X2 hx2 k.val (t1_lt k) _ (off3_eq k))

/-- The scores of key block 10, as the trip holds them. -/
theorem s10 (hx2 : ∀ i, ∃ r : ℝ, X2 i = (r : EReal)) (hx4 : ∀ i, ∃ r : ℝ, X4 i = (r : EReal)) :
    IsS (KR X4) (QR X2 k.val) 10 (trip.sl.v369 (F := Ideal) arg2 arg4 arg10 (harg2.unread X2) (harg4.unread X4) k) := by
  rw [show trip.sl.v369 (F := Ideal) arg2 arg4 arg10 (harg2.unread X2) (harg4.unread X4) k
    = k0_pay4 (F := Ideal) (View.readAt (Elt Ideal) arg4.view (Rect.unit (s := S1x8192x128) ![0, 2560, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 10 (by decide) _ (by decide)) (qblk arg2 harg2 X2 hx2 k.val (t1_lt k) _ (off3_eq k))

/-- The scores of key block 11, as the trip holds them. -/
theorem s11 (hx2 : ∀ i, ∃ r : ℝ, X2 i = (r : EReal)) (hx4 : ∀ i, ∃ r : ℝ, X4 i = (r : EReal)) :
    IsS (KR X4) (QR X2 k.val) 11 (trip.sl.v399 (F := Ideal) arg2 arg4 arg10 (harg2.unread X2) (harg4.unread X4) k) := by
  rw [show trip.sl.v399 (F := Ideal) arg2 arg4 arg10 (harg2.unread X2) (harg4.unread X4) k
    = k0_pay4 (F := Ideal) (View.readAt (Elt Ideal) arg4.view (Rect.unit (s := S1x8192x128) ![0, 2816, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 11 (by decide) _ (by decide)) (qblk arg2 harg2 X2 hx2 k.val (t1_lt k) _ (off3_eq k))

/-- The scores of key block 12, as the trip holds them. -/
theorem s12 (hx2 : ∀ i, ∃ r : ℝ, X2 i = (r : EReal)) (hx4 : ∀ i, ∃ r : ℝ, X4 i = (r : EReal)) :
    IsS (KR X4) (QR X2 k.val) 12 (trip.sl.v429 (F := Ideal) arg2 arg4 arg10 (harg2.unread X2) (harg4.unread X4) k) := by
  rw [show trip.sl.v429 (F := Ideal) arg2 arg4 arg10 (harg2.unread X2) (harg4.unread X4) k
    = k0_pay4 (F := Ideal) (View.readAt (Elt Ideal) arg4.view (Rect.unit (s := S1x8192x128) ![0, 3072, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 12 (by decide) _ (by decide)) (qblk arg2 harg2 X2 hx2 k.val (t1_lt k) _ (off3_eq k))

/-- The scores of key block 13, as the trip holds them. -/
theorem s13 (hx2 : ∀ i, ∃ r : ℝ, X2 i = (r : EReal)) (hx4 : ∀ i, ∃ r : ℝ, X4 i = (r : EReal)) :
    IsS (KR X4) (QR X2 k.val) 13 (trip.sl.v459 (F := Ideal) arg2 arg4 arg10 (harg2.unread X2) (harg4.unread X4) k) := by
  rw [show trip.sl.v459 (F := Ideal) arg2 arg4 arg10 (harg2.unread X2) (harg4.unread X4) k
    = k0_pay4 (F := Ideal) (View.readAt (Elt Ideal) arg4.view (Rect.unit (s := S1x8192x128) ![0, 3328, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 13 (by decide) _ (by decide)) (qblk arg2 harg2 X2 hx2 k.val (t1_lt k) _ (off3_eq k))

/-- The scores of key block 14, as the trip holds them. -/
theorem s14 (hx2 : ∀ i, ∃ r : ℝ, X2 i = (r : EReal)) (hx4 : ∀ i, ∃ r : ℝ, X4 i = (r : EReal)) :
    IsS (KR X4) (QR X2 k.val) 14 (trip.sl.v489 (F := Ideal) arg2 arg4 arg10 (harg2.unread X2) (harg4.unread X4) k) := by
  rw [show trip.sl.v489 (F := Ideal) arg2 arg4 arg10 (harg2.unread X2) (harg4.unread X4) k
    = k0_pay4 (F := Ideal) (View.readAt (Elt Ideal) arg4.view (Rect.unit (s := S1x8192x128) ![0, 3584, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 14 (by decide) _ (by decide)) (qblk arg2 harg2 X2 hx2 k.val (t1_lt k) _ (off3_eq k))

/-- The scores of key block 15, as the trip holds them. -/
theorem s15 (hx2 : ∀ i, ∃ r : ℝ, X2 i = (r : EReal)) (hx4 : ∀ i, ∃ r : ℝ, X4 i = (r : EReal)) :
    IsS (KR X4) (QR X2 k.val) 15 (trip.sl.v519 (F := Ideal) arg2 arg4 arg10 (harg2.unread X2) (harg4.unread X4) k) := by
  rw [show trip.sl.v519 (F := Ideal) arg2 arg4 arg10 (harg2.unread X2) (harg4.unread X4) k
    = k0_pay4 (F := Ideal) (View.readAt (Elt Ideal) arg4.view (Rect.unit (s := S1x8192x128) ![0, 3840, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 15 (by decide) _ (by decide)) (qblk arg2 harg2 X2 hx2 k.val (t1_lt k) _ (off3_eq k))

/-- The scores of key block 16, as the trip holds them. -/
theorem s16 (hx2 : ∀ i, ∃ r : ℝ, X2 i = (r : EReal)) (hx4 : ∀ i, ∃ r : ℝ, X4 i = (r : EReal)) :
    IsS (KR X4) (QR X2 k.val) 16 (trip.sl.v545 (F := Ideal) arg2 arg4 arg10 (harg2.unread X2) (harg4.unread X4) k) := by
  rw [show trip.sl.v545 (F := Ideal) arg2 arg4 arg10 (harg2.unread X2) (harg4.unread X4) k
    = k0_pay4 (F := Ideal) (View.readAt (Elt Ideal) arg4.view (Rect.unit (s := S1x8192x128) ![0, 4096, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 16 (by decide) _ (by decide)) (qblk arg2 harg2 X2 hx2 k.val (t1_lt k) _ (off3_eq k))

/-- The scores of key block 17, as the trip holds them. -/
theorem s17 (hx2 : ∀ i, ∃ r : ℝ, X2 i = (r : EReal)) (hx4 : ∀ i, ∃ r : ℝ, X4 i = (r : EReal)) :
    IsS (KR X4) (QR X2 k.val) 17 (trip.sl.v570 (F := Ideal) arg2 arg4 arg10 (harg2.unread X2) (harg4.unread X4) k) := by
  rw [show trip.sl.v570 (F := Ideal) arg2 arg4 arg10 (harg2.unread X2) (harg4.unread X4) k
    = k0_pay4 (F := Ideal) (View.readAt (Elt Ideal) arg4.view (Rect.unit (s := S1x8192x128) ![0, 4352, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 17 (by decide) _ (by decide)) (qblk arg2 harg2 X2 hx2 k.val (t1_lt k) _ (off3_eq k))

/-- The scores of key block 18, as the trip holds them. -/
theorem s18 (hx2 : ∀ i, ∃ r : ℝ, X2 i = (r : EReal)) (hx4 : ∀ i, ∃ r : ℝ, X4 i = (r : EReal)) :
    IsS (KR X4) (QR X2 k.val) 18 (trip.sl.v595 (F := Ideal) arg2 arg4 arg10 (harg2.unread X2) (harg4.unread X4) k) := by
  rw [show trip.sl.v595 (F := Ideal) arg2 arg4 arg10 (harg2.unread X2) (harg4.unread X4) k
    = k0_pay4 (F := Ideal) (View.readAt (Elt Ideal) arg4.view (Rect.unit (s := S1x8192x128) ![0, 4608, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 18 (by decide) _ (by decide)) (qblk arg2 harg2 X2 hx2 k.val (t1_lt k) _ (off3_eq k))

/-- The scores of key block 19, as the trip holds them. -/
theorem s19 (hx2 : ∀ i, ∃ r : ℝ, X2 i = (r : EReal)) (hx4 : ∀ i, ∃ r : ℝ, X4 i = (r : EReal)) :
    IsS (KR X4) (QR X2 k.val) 19 (trip.sl.v620 (F := Ideal) arg2 arg4 arg10 (harg2.unread X2) (harg4.unread X4) k) := by
  rw [show trip.sl.v620 (F := Ideal) arg2 arg4 arg10 (harg2.unread X2) (harg4.unread X4) k
    = k0_pay4 (F := Ideal) (View.readAt (Elt Ideal) arg4.view (Rect.unit (s := S1x8192x128) ![0, 4864, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 19 (by decide) _ (by decide)) (qblk arg2 harg2 X2 hx2 k.val (t1_lt k) _ (off3_eq k))

/-- The scores of key block 20, as the trip holds them. -/
theorem s20 (hx2 : ∀ i, ∃ r : ℝ, X2 i = (r : EReal)) (hx4 : ∀ i, ∃ r : ℝ, X4 i = (r : EReal)) :
    IsS (KR X4) (QR X2 k.val) 20 (trip.sl.v645 (F := Ideal) arg2 arg4 arg10 (harg2.unread X2) (harg4.unread X4) k) := by
  rw [show trip.sl.v645 (F := Ideal) arg2 arg4 arg10 (harg2.unread X2) (harg4.unread X4) k
    = k0_pay4 (F := Ideal) (View.readAt (Elt Ideal) arg4.view (Rect.unit (s := S1x8192x128) ![0, 5120, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 20 (by decide) _ (by decide)) (qblk arg2 harg2 X2 hx2 k.val (t1_lt k) _ (off3_eq k))

/-- The scores of key block 21, as the trip holds them. -/
theorem s21 (hx2 : ∀ i, ∃ r : ℝ, X2 i = (r : EReal)) (hx4 : ∀ i, ∃ r : ℝ, X4 i = (r : EReal)) :
    IsS (KR X4) (QR X2 k.val) 21 (trip.sl.v698 (F := Ideal) arg2 arg4 arg10 (harg2.unread X2) (harg4.unread X4) k) := by
  rw [show trip.sl.v698 (F := Ideal) arg2 arg4 arg10 (harg2.unread X2) (harg4.unread X4) k
    = k0_pay4 (F := Ideal) (View.readAt (Elt Ideal) arg4.view (Rect.unit (s := S1x8192x128) ![0, 5376, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 21 (by decide) _ (by decide)) (qblk arg2 harg2 X2 hx2 k.val (t1_lt k) _ (off3_eq k))

/-- The scores of key block 22, as the trip holds them. -/
theorem s22 (hx2 : ∀ i, ∃ r : ℝ, X2 i = (r : EReal)) (hx4 : ∀ i, ∃ r : ℝ, X4 i = (r : EReal)) :
    IsS (KR X4) (QR X2 k.val) 22 (trip.sl.v723 (F := Ideal) arg2 arg4 arg10 (harg2.unread X2) (harg4.unread X4) k) := by
  rw [show trip.sl.v723 (F := Ideal) arg2 arg4 arg10 (harg2.unread X2) (harg4.unread X4) k
    = k0_pay4 (F := Ideal) (View.readAt (Elt Ideal) arg4.view (Rect.unit (s := S1x8192x128) ![0, 5632, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 22 (by decide) _ (by decide)) (qblk arg2 harg2 X2 hx2 k.val (t1_lt k) _ (off3_eq k))

/-- The scores of key block 23, as the trip holds them. -/
theorem s23 (hx2 : ∀ i, ∃ r : ℝ, X2 i = (r : EReal)) (hx4 : ∀ i, ∃ r : ℝ, X4 i = (r : EReal)) :
    IsS (KR X4) (QR X2 k.val) 23 (trip.sl.v748 (F := Ideal) arg2 arg4 arg10 (harg2.unread X2) (harg4.unread X4) k) := by
  rw [show trip.sl.v748 (F := Ideal) arg2 arg4 arg10 (harg2.unread X2) (harg4.unread X4) k
    = k0_pay4 (F := Ideal) (View.readAt (Elt Ideal) arg4.view (Rect.unit (s := S1x8192x128) ![0, 5888, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 23 (by decide) _ (by decide)) (qblk arg2 harg2 X2 hx2 k.val (t1_lt k) _ (off3_eq k))

/-- The scores of key block 24, as the trip holds them. -/
theorem s24 (hx2 : ∀ i, ∃ r : ℝ, X2 i = (r : EReal)) (hx4 : ∀ i, ∃ r : ℝ, X4 i = (r : EReal)) :
    IsS (KR X4) (QR X2 k.val) 24 (trip.sl.v773 (F := Ideal) arg2 arg4 arg10 (harg2.unread X2) (harg4.unread X4) k) := by
  rw [show trip.sl.v773 (F := Ideal) arg2 arg4 arg10 (harg2.unread X2) (harg4.unread X4) k
    = k0_pay4 (F := Ideal) (View.readAt (Elt Ideal) arg4.view (Rect.unit (s := S1x8192x128) ![0, 6144, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 24 (by decide) _ (by decide)) (qblk arg2 harg2 X2 hx2 k.val (t1_lt k) _ (off3_eq k))

/-- The scores of key block 25, as the trip holds them. -/
theorem s25 (hx2 : ∀ i, ∃ r : ℝ, X2 i = (r : EReal)) (hx4 : ∀ i, ∃ r : ℝ, X4 i = (r : EReal)) :
    IsS (KR X4) (QR X2 k.val) 25 (trip.sl.v798 (F := Ideal) arg2 arg4 arg10 (harg2.unread X2) (harg4.unread X4) k) := by
  rw [show trip.sl.v798 (F := Ideal) arg2 arg4 arg10 (harg2.unread X2) (harg4.unread X4) k
    = k0_pay4 (F := Ideal) (View.readAt (Elt Ideal) arg4.view (Rect.unit (s := S1x8192x128) ![0, 6400, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 25 (by decide) _ (by decide)) (qblk arg2 harg2 X2 hx2 k.val (t1_lt k) _ (off3_eq k))

/-- The scores of key block 26, as the trip holds them. -/
theorem s26 (hx2 : ∀ i, ∃ r : ℝ, X2 i = (r : EReal)) (hx4 : ∀ i, ∃ r : ℝ, X4 i = (r : EReal)) :
    IsS (KR X4) (QR X2 k.val) 26 (trip.sl.v823 (F := Ideal) arg2 arg4 arg10 (harg2.unread X2) (harg4.unread X4) k) := by
  rw [show trip.sl.v823 (F := Ideal) arg2 arg4 arg10 (harg2.unread X2) (harg4.unread X4) k
    = k0_pay4 (F := Ideal) (View.readAt (Elt Ideal) arg4.view (Rect.unit (s := S1x8192x128) ![0, 6656, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 26 (by decide) _ (by decide)) (qblk arg2 harg2 X2 hx2 k.val (t1_lt k) _ (off3_eq k))

/-- The scores of key block 27, as the trip holds them. -/
theorem s27 (hx2 : ∀ i, ∃ r : ℝ, X2 i = (r : EReal)) (hx4 : ∀ i, ∃ r : ℝ, X4 i = (r : EReal)) :
    IsS (KR X4) (QR X2 k.val) 27 (trip.sl.v848 (F := Ideal) arg2 arg4 arg10 (harg2.unread X2) (harg4.unread X4) k) := by
  rw [show trip.sl.v848 (F := Ideal) arg2 arg4 arg10 (harg2.unread X2) (harg4.unread X4) k
    = k0_pay4 (F := Ideal) (View.readAt (Elt Ideal) arg4.view (Rect.unit (s := S1x8192x128) ![0, 6912, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 27 (by decide) _ (by decide)) (qblk arg2 harg2 X2 hx2 k.val (t1_lt k) _ (off3_eq k))

/-- The scores of key block 28, as the trip holds them. -/
theorem s28 (hx2 : ∀ i, ∃ r : ℝ, X2 i = (r : EReal)) (hx4 : ∀ i, ∃ r : ℝ, X4 i = (r : EReal)) :
    IsS (KR X4) (QR X2 k.val) 28 (trip.sl.v873 (F := Ideal) arg2 arg4 arg10 (harg2.unread X2) (harg4.unread X4) k) := by
  rw [show trip.sl.v873 (F := Ideal) arg2 arg4 arg10 (harg2.unread X2) (harg4.unread X4) k
    = k0_pay4 (F := Ideal) (View.readAt (Elt Ideal) arg4.view (Rect.unit (s := S1x8192x128) ![0, 7168, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 28 (by decide) _ (by decide)) (qblk arg2 harg2 X2 hx2 k.val (t1_lt k) _ (off3_eq k))

/-- The scores of key block 29, as the trip holds them. -/
theorem s29 (hx2 : ∀ i, ∃ r : ℝ, X2 i = (r : EReal)) (hx4 : ∀ i, ∃ r : ℝ, X4 i = (r : EReal)) :
    IsS (KR X4) (QR X2 k.val) 29 (trip.sl.v898 (F := Ideal) arg2 arg4 arg10 (harg2.unread X2) (harg4.unread X4) k) := by
  rw [show trip.sl.v898 (F := Ideal) arg2 arg4 arg10 (harg2.unread X2) (harg4.unread X4) k
    = k0_pay4 (F := Ideal) (View.readAt (Elt Ideal) arg4.view (Rect.unit (s := S1x8192x128) ![0, 7424, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 29 (by decide) _ (by decide)) (qblk arg2 harg2 X2 hx2 k.val (t1_lt k) _ (off3_eq k))

/-- The scores of key block 30, as the trip holds them. -/
theorem s30 (hx2 : ∀ i, ∃ r : ℝ, X2 i = (r : EReal)) (hx4 : ∀ i, ∃ r : ℝ, X4 i = (r : EReal)) :
    IsS (KR X4) (QR X2 k.val) 30 (trip.sl.v923 (F := Ideal) arg2 arg4 arg10 (harg2.unread X2) (harg4.unread X4) k) := by
  rw [show trip.sl.v923 (F := Ideal) arg2 arg4 arg10 (harg2.unread X2) (harg4.unread X4) k
    = k0_pay4 (F := Ideal) (View.readAt (Elt Ideal) arg4.view (Rect.unit (s := S1x8192x128) ![0, 7680, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inl (by decide))]
  exact isS (kblk arg4 harg4 X4 hx4 30 (by decide) _ (by decide)) (qblk arg2 harg2 X2 hx2 k.val (t1_lt k) _ (off3_eq k))

/-- The scores of key block 31, as the trip holds them. -/
theorem s31 (hx2 : ∀ i, ∃ r : ℝ, X2 i = (r : EReal)) (hx4 : ∀ i, ∃ r : ℝ, X4 i = (r : EReal)) :
    IsS (KR X4) (QR X2 k.val) 31 (trip.sl.v950 (F := Ideal) arg2 arg4 arg10 (harg2.unread X2) (harg4.unread X4) k) := by
  rw [show trip.sl.v950 (F := Ideal) arg2 arg4 arg10 (harg2.unread X2) (harg4.unread X4) k
    = k0_pay4 (F := Ideal) (View.readAt (Elt Ideal) arg4.view (Rect.unit (s := S1x8192x128) ![0, 7936, 0] S1x256x128.size (by decide)).toLoadRect (harg4.unread X4))
        (View.readAt (Elt Ideal) arg2.view (Rect.unit (s := S1x1x32x128x1024) (k0_off3 k) S1x1x1x128x1024.size (k0_off3_inb k)).toLoadRect (harg2.unread X2)) from second _ _ _ _ _ _ _ 0 (Or.inr (by decide))]
  exact isS (kblk arg4 harg4 X4 hx4 31 (by decide) _ (by decide)) (qblk arg2 harg2 X2 hx2 k.val (t1_lt k) _ (off3_eq k))

/-- The quick path's sum after 0 key blocks. -/
theorem a0 (c : Fin 1024 → ℝ) : IsA (KR X4) (VR X6) (QR X2 k.val) c 0 (trip.sl.v75 (F := Ideal) arg8) := by
  rw [show trip.sl.v75 (F := Ideal) arg8 = k0_pay3 (F := Ideal) from View.readCov_full _ _ _ _ _]
  exact isA0 c

/-- The quick path's sum after 1 key block. -/
theorem a1 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 1 (trip.sl.v105 (F := Ideal) arg3 arg6 arg8 arg10 v0 (harg3.unread X3) (harg6.unread X6) k f10) := by
  rw [show trip.sl.v105 (F := Ideal) arg3 arg6 arg8 arg10 v0 (harg3.unread X3) (harg6.unread X6) k f10
    = k0_pay32 (F := Ideal) (trip.sl.r (F := Ideal) arg3 v0 (harg3.unread X3) k) (trip.sl.v69 (F := Ideal) arg10 f10) (trip.sl.v75 (F := Ideal) arg8)
        (View.readAt (Elt Ideal) arg6.view (Rect.unit (s := S1x1x32x80x256) ![0, 0, 0, 0, 0] S1x1x1x80x256.size (by decide)).toLoadRect (harg6.unread X6)) from View.readCov_full _ _ _ _ _]
  exact isA hc (hs) (a0 X2 X4 X6 k c) (vblk arg6 harg6 X6 0 (by decide) _ (by decide))

/-- The quick path's sum after 2 key blocks. -/
theorem a2 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 2 (trip.sl.v135 (F := Ideal) arg2 arg3 arg4 arg6 arg8 arg10 v0 (harg2.unread X2) (harg3.unread X3) (harg4.unread X4) (harg6.unread X6) k f10) := by
  rw [show trip.sl.v135 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v99 (F := Ideal) arg2 arg4 arg10 (harg2.unread X2) (harg4.unread X4) k) (trip.sl.v105 (F := Ideal) arg3 arg6 arg8 arg10 v0 (harg3.unread X3) (harg6.unread X6) k f10)
        (View.readAt (Elt Ideal) arg6.view (Rect.unit (s := S1x1x32x80x256) ![0, 0, 1, 0, 0] S1x1x1x80x256.size (by decide)).toLoadRect (harg6.unread X6)) from View.readCov_full _ _ _ _ _]
  exact isA hc (s1 X2 X4 k hx2 hx4) (a1 v0 X2 X3 X4 X6 k f10 hx2 hx4 hs c hc) (vblk arg6 harg6 X6 1 (by decide) _ (by decide))

/-- The quick path's sum after 3 key blocks. -/
theorem a3 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 3 (trip.sl.v165 (F := Ideal) arg2 arg3 arg4 arg6 arg8 arg10 v0 (harg2.unread X2) (harg3.unread X3) (harg4.unread X4) (harg6.unread X6) k f10) := by
  rw [show trip.sl.v165 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v129 (F := Ideal) arg2 arg4 arg10 (harg2.unread X2) (harg4.unread X4) k) (trip.sl.v135 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 2, 0, 0] S1x1x1x80x256.size (by decide)).toLoadRect (harg6.unread X6)) from View.readCov_full _ _ _ _ _]
  exact isA hc (s2 X2 X4 k hx2 hx4) (a2 v0 X2 X3 X4 X6 k f10 hx2 hx4 hs c hc) (vblk arg6 harg6 X6 2 (by decide) _ (by decide))

/-- The quick path's sum after 4 key blocks. -/
theorem a4 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 4 (trip.sl.v195 (F := Ideal) arg2 arg3 arg4 arg6 arg8 arg10 v0 (harg2.unread X2) (harg3.unread X3) (harg4.unread X4) (harg6.unread X6) k f10) := by
  rw [show trip.sl.v195 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v159 (F := Ideal) arg2 arg4 arg10 (harg2.unread X2) (harg4.unread X4) k) (trip.sl.v165 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 3, 0, 0] S1x1x1x80x256.size (by decide)).toLoadRect (harg6.unread X6)) from View.readCov_full _ _ _ _ _]
  exact isA hc (s3 X2 X4 k hx2 hx4) (a3 v0 X2 X3 X4 X6 k f10 hx2 hx4 hs c hc) (vblk arg6 harg6 X6 3 (by decide) _ (by decide))

/-- The quick path's sum after 5 key blocks. -/
theorem a5 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 5 (trip.sl.v225 (F := Ideal) arg2 arg3 arg4 arg6 arg8 arg10 v0 (harg2.unread X2) (harg3.unread X3) (harg4.unread X4) (harg6.unread X6) k f10) := by
  rw [show trip.sl.v225 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v189 (F := Ideal) arg2 arg4 arg10 (harg2.unread X2) (harg4.unread X4) k) (trip.sl.v195 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 4, 0, 0] S1x1x1x80x256.size (by decide)).toLoadRect (harg6.unread X6)) from View.readCov_full _ _ _ _ _]
  exact isA hc (s4 X2 X4 k hx2 hx4) (a4 v0 X2 X3 X4 X6 k f10 hx2 hx4 hs c hc) (vblk arg6 harg6 X6 4 (by decide) _ (by decide))

/-- The quick path's sum after 6 key blocks. -/
theorem a6 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 6 (trip.sl.v255 (F := Ideal) arg2 arg3 arg4 arg6 arg8 arg10 v0 (harg2.unread X2) (harg3.unread X3) (harg4.unread X4) (harg6.unread X6) k f10) := by
  rw [show trip.sl.v255 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v219 (F := Ideal) arg2 arg4 arg10 (harg2.unread X2) (harg4.unread X4) k) (trip.sl.v225 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 5, 0, 0] S1x1x1x80x256.size (by decide)).toLoadRect (harg6.unread X6)) from View.readCov_full _ _ _ _ _]
  exact isA hc (s5 X2 X4 k hx2 hx4) (a5 v0 X2 X3 X4 X6 k f10 hx2 hx4 hs c hc) (vblk arg6 harg6 X6 5 (by decide) _ (by decide))

/-- The quick path's sum after 7 key blocks. -/
theorem a7 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 7 (trip.sl.v285 (F := Ideal) arg2 arg3 arg4 arg6 arg8 arg10 v0 (harg2.unread X2) (harg3.unread X3) (harg4.unread X4) (harg6.unread X6) k f10) := by
  rw [show trip.sl.v285 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v249 (F := Ideal) arg2 arg4 arg10 (harg2.unread X2) (harg4.unread X4) k) (trip.sl.v255 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 6, 0, 0] S1x1x1x80x256.size (by decide)).toLoadRect (harg6.unread X6)) from View.readCov_full _ _ _ _ _]
  exact isA hc (s6 X2 X4 k hx2 hx4) (a6 v0 X2 X3 X4 X6 k f10 hx2 hx4 hs c hc) (vblk arg6 harg6 X6 6 (by decide) _ (by decide))

/-- The quick path's sum after 8 key blocks. -/
theorem a8 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 8 (trip.sl.v315 (F := Ideal) arg2 arg3 arg4 arg6 arg8 arg10 v0 (harg2.unread X2) (harg3.unread X3) (harg4.unread X4) (harg6.unread X6) k f10) := by
  rw [show trip.sl.v315 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v279 (F := Ideal) arg2 arg4 arg10 (harg2.unread X2) (harg4.unread X4) k) (trip.sl.v285 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 7, 0, 0] S1x1x1x80x256.size (by decide)).toLoadRect (harg6.unread X6)) from View.readCov_full _ _ _ _ _]
  exact isA hc (s7 X2 X4 k hx2 hx4) (a7 v0 X2 X3 X4 X6 k f10 hx2 hx4 hs c hc) (vblk arg6 harg6 X6 7 (by decide) _ (by decide))

/-- The quick path's sum after 9 key blocks. -/
theorem a9 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 9 (trip.sl.v345 (F := Ideal) arg2 arg3 arg4 arg6 arg8 arg10 v0 (harg2.unread X2) (harg3.unread X3) (harg4.unread X4) (harg6.unread X6) k f10) := by
  rw [show trip.sl.v345 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v309 (F := Ideal) arg2 arg4 arg10 (harg2.unread X2) (harg4.unread X4) k) (trip.sl.v315 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 8, 0, 0] S1x1x1x80x256.size (by decide)).toLoadRect (harg6.unread X6)) from View.readCov_full _ _ _ _ _]
  exact isA hc (s8 X2 X4 k hx2 hx4) (a8 v0 X2 X3 X4 X6 k f10 hx2 hx4 hs c hc) (vblk arg6 harg6 X6 8 (by decide) _ (by decide))

/-- The quick path's sum after 10 key blocks. -/
theorem a10 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 10 (trip.sl.v375 (F := Ideal) arg2 arg3 arg4 arg6 arg8 arg10 v0 (harg2.unread X2) (harg3.unread X3) (harg4.unread X4) (harg6.unread X6) k f10) := by
  rw [show trip.sl.v375 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v339 (F := Ideal) arg2 arg4 arg10 (harg2.unread X2) (harg4.unread X4) k) (trip.sl.v345 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 9, 0, 0] S1x1x1x80x256.size (by decide)).toLoadRect (harg6.unread X6)) from View.readCov_full _ _ _ _ _]
  exact isA hc (s9 X2 X4 k hx2 hx4) (a9 v0 X2 X3 X4 X6 k f10 hx2 hx4 hs c hc) (vblk arg6 harg6 X6 9 (by decide) _ (by decide))

/-- The quick path's sum after 11 key blocks. -/
theorem a11 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 11 (trip.sl.v405 (F := Ideal) arg2 arg3 arg4 arg6 arg8 arg10 v0 (harg2.unread X2) (harg3.unread X3) (harg4.unread X4) (harg6.unread X6) k f10) := by
  rw [show trip.sl.v405 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v369 (F := Ideal) arg2 arg4 arg10 (harg2.unread X2) (harg4.unread X4) k) (trip.sl.v375 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 10, 0, 0] S1x1x1x80x256.size (by decide)).toLoadRect (harg6.unread X6)) from View.readCov_full _ _ _ _ _]
  exact isA hc (s10 X2 X4 k hx2 hx4) (a10 v0 X2 X3 X4 X6 k f10 hx2 hx4 hs c hc) (vblk arg6 harg6 X6 10 (by decide) _ (by decide))

/-- The quick path's sum after 12 key blocks. -/
theorem a12 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 12 (trip.sl.v435 (F := Ideal) arg2 arg3 arg4 arg6 arg8 arg10 v0 (harg2.unread X2) (harg3.unread X3) (harg4.unread X4) (harg6.unread X6) k f10) := by
  rw [show trip.sl.v435 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v399 (F := Ideal) arg2 arg4 arg10 (harg2.unread X2) (harg4.unread X4) k) (trip.sl.v405 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 11, 0, 0] S1x1x1x80x256.size (by decide)).toLoadRect (harg6.unread X6)) from View.readCov_full _ _ _ _ _]
  exact isA hc (s11 X2 X4 k hx2 hx4) (a11 v0 X2 X3 X4 X6 k f10 hx2 hx4 hs c hc) (vblk arg6 harg6 X6 11 (by decide) _ (by decide))

/-- The quick path's sum after 13 key blocks. -/
theorem a13 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 13 (trip.sl.v465 (F := Ideal) arg2 arg3 arg4 arg6 arg8 arg10 v0 (harg2.unread X2) (harg3.unread X3) (harg4.unread X4) (harg6.unread X6) k f10) := by
  rw [show trip.sl.v465 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v429 (F := Ideal) arg2 arg4 arg10 (harg2.unread X2) (harg4.unread X4) k) (trip.sl.v435 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 12, 0, 0] S1x1x1x80x256.size (by decide)).toLoadRect (harg6.unread X6)) from View.readCov_full _ _ _ _ _]
  exact isA hc (s12 X2 X4 k hx2 hx4) (a12 v0 X2 X3 X4 X6 k f10 hx2 hx4 hs c hc) (vblk arg6 harg6 X6 12 (by decide) _ (by decide))

/-- The quick path's sum after 14 key blocks. -/
theorem a14 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 14 (trip.sl.v495 (F := Ideal) arg2 arg3 arg4 arg6 arg8 arg10 v0 (harg2.unread X2) (harg3.unread X3) (harg4.unread X4) (harg6.unread X6) k f10) := by
  rw [show trip.sl.v495 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v459 (F := Ideal) arg2 arg4 arg10 (harg2.unread X2) (harg4.unread X4) k) (trip.sl.v465 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 13, 0, 0] S1x1x1x80x256.size (by decide)).toLoadRect (harg6.unread X6)) from View.readCov_full _ _ _ _ _]
  exact isA hc (s13 X2 X4 k hx2 hx4) (a13 v0 X2 X3 X4 X6 k f10 hx2 hx4 hs c hc) (vblk arg6 harg6 X6 13 (by decide) _ (by decide))

/-- The quick path's sum after 15 key blocks. -/
theorem a15 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 15 (trip.sl.v525 (F := Ideal) arg2 arg3 arg4 arg6 arg8 arg10 v0 (harg2.unread X2) (harg3.unread X3) (harg4.unread X4) (harg6.unread X6) k f10) := by
  rw [show trip.sl.v525 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v489 (F := Ideal) arg2 arg4 arg10 (harg2.unread X2) (harg4.unread X4) k) (trip.sl.v495 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 14, 0, 0] S1x1x1x80x256.size (by decide)).toLoadRect (harg6.unread X6)) from View.readCov_full _ _ _ _ _]
  exact isA hc (s14 X2 X4 k hx2 hx4) (a14 v0 X2 X3 X4 X6 k f10 hx2 hx4 hs c hc) (vblk arg6 harg6 X6 14 (by decide) _ (by decide))

/-- The quick path's sum after 16 key blocks. -/
theorem a16 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 16 (trip.sl.v551 (F := Ideal) arg2 arg3 arg4 arg6 arg8 arg10 v0 (harg2.unread X2) (harg3.unread X3) (harg4.unread X4) (harg6.unread X6) k f10) := by
  rw [show trip.sl.v551 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v519 (F := Ideal) arg2 arg4 arg10 (harg2.unread X2) (harg4.unread X4) k) (trip.sl.v525 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 15, 0, 0] S1x1x1x80x256.size (by decide)).toLoadRect (harg6.unread X6)) from View.readCov_full _ _ _ _ _]
  exact isA hc (s15 X2 X4 k hx2 hx4) (a15 v0 X2 X3 X4 X6 k f10 hx2 hx4 hs c hc) (vblk arg6 harg6 X6 15 (by decide) _ (by decide))

/-- The quick path's sum after 17 key blocks. -/
theorem a17 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 17 (trip.sl.v576 (F := Ideal) arg2 arg3 arg4 arg6 arg8 arg10 v0 (harg2.unread X2) (harg3.unread X3) (harg4.unread X4) (harg6.unread X6) k f10) := by
  rw [show trip.sl.v576 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v545 (F := Ideal) arg2 arg4 arg10 (harg2.unread X2) (harg4.unread X4) k) (trip.sl.v551 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 16, 0, 0] S1x1x1x80x256.size (by decide)).toLoadRect (harg6.unread X6)) from View.readCov_full _ _ _ _ _]
  exact isA hc (s16 X2 X4 k hx2 hx4) (a16 v0 X2 X3 X4 X6 k f10 hx2 hx4 hs c hc) (vblk arg6 harg6 X6 16 (by decide) _ (by decide))

/-- The quick path's sum after 18 key blocks. -/
theorem a18 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 18 (trip.sl.v601 (F := Ideal) arg2 arg3 arg4 arg6 arg8 arg10 v0 (harg2.unread X2) (harg3.unread X3) (harg4.unread X4) (harg6.unread X6) k f10) := by
  rw [show trip.sl.v601 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v570 (F := Ideal) arg2 arg4 arg10 (harg2.unread X2) (harg4.unread X4) k) (trip.sl.v576 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 17, 0, 0] S1x1x1x80x256.size (by decide)).toLoadRect (harg6.unread X6)) from View.readCov_full _ _ _ _ _]
  exact isA hc (s17 X2 X4 k hx2 hx4) (a17 v0 X2 X3 X4 X6 k f10 hx2 hx4 hs c hc) (vblk arg6 harg6 X6 17 (by decide) _ (by decide))

/-- The quick path's sum after 19 key blocks. -/
theorem a19 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 19 (trip.sl.v626 (F := Ideal) arg2 arg3 arg4 arg6 arg8 arg10 v0 (harg2.unread X2) (harg3.unread X3) (harg4.unread X4) (harg6.unread X6) k f10) := by
  rw [show trip.sl.v626 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v595 (F := Ideal) arg2 arg4 arg10 (harg2.unread X2) (harg4.unread X4) k) (trip.sl.v601 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 18, 0, 0] S1x1x1x80x256.size (by decide)).toLoadRect (harg6.unread X6)) from View.readCov_full _ _ _ _ _]
  exact isA hc (s18 X2 X4 k hx2 hx4) (a18 v0 X2 X3 X4 X6 k f10 hx2 hx4 hs c hc) (vblk arg6 harg6 X6 18 (by decide) _ (by decide))

/-- The quick path's sum after 20 key blocks. -/
theorem a20 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 20 (trip.sl.v651 (F := Ideal) arg2 arg3 arg4 arg6 arg8 arg10 v0 (harg2.unread X2) (harg3.unread X3) (harg4.unread X4) (harg6.unread X6) k f10) := by
  rw [show trip.sl.v651 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v620 (F := Ideal) arg2 arg4 arg10 (harg2.unread X2) (harg4.unread X4) k) (trip.sl.v626 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 19, 0, 0] S1x1x1x80x256.size (by decide)).toLoadRect (harg6.unread X6)) from View.readCov_full _ _ _ _ _]
  exact isA hc (s19 X2 X4 k hx2 hx4) (a19 v0 X2 X3 X4 X6 k f10 hx2 hx4 hs c hc) (vblk arg6 harg6 X6 19 (by decide) _ (by decide))

/-- The quick path's sum after 21 key blocks. -/
theorem a21 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 21 (trip.sl.v704 (F := Ideal) arg2 arg3 arg4 arg6 arg8 arg10 v0 (harg2.unread X2) (harg3.unread X3) (harg4.unread X4) (harg6.unread X6) k f10) := by
  rw [show trip.sl.v704 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v645 (F := Ideal) arg2 arg4 arg10 (harg2.unread X2) (harg4.unread X4) k) (trip.sl.v651 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 20, 0, 0] S1x1x1x80x256.size (by decide)).toLoadRect (harg6.unread X6)) from View.readCov_full _ _ _ _ _]
  exact isA hc (s20 X2 X4 k hx2 hx4) (a20 v0 X2 X3 X4 X6 k f10 hx2 hx4 hs c hc) (vblk arg6 harg6 X6 20 (by decide) _ (by decide))

/-- The quick path's sum after 22 key blocks. -/
theorem a22 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 22 (trip.sl.v729 (F := Ideal) arg2 arg3 arg4 arg6 arg8 arg10 v0 (harg2.unread X2) (harg3.unread X3) (harg4.unread X4) (harg6.unread X6) k f10) := by
  rw [show trip.sl.v729 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v698 (F := Ideal) arg2 arg4 arg10 (harg2.unread X2) (harg4.unread X4) k) (trip.sl.v704 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 21, 0, 0] S1x1x1x80x256.size (by decide)).toLoadRect (harg6.unread X6)) from View.readCov_full _ _ _ _ _]
  exact isA hc (s21 X2 X4 k hx2 hx4) (a21 v0 X2 X3 X4 X6 k f10 hx2 hx4 hs c hc) (vblk arg6 harg6 X6 21 (by decide) _ (by decide))

/-- The quick path's sum after 23 key blocks. -/
theorem a23 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 23 (trip.sl.v754 (F := Ideal) arg2 arg3 arg4 arg6 arg8 arg10 v0 (harg2.unread X2) (harg3.unread X3) (harg4.unread X4) (harg6.unread X6) k f10) := by
  rw [show trip.sl.v754 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v723 (F := Ideal) arg2 arg4 arg10 (harg2.unread X2) (harg4.unread X4) k) (trip.sl.v729 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 22, 0, 0] S1x1x1x80x256.size (by decide)).toLoadRect (harg6.unread X6)) from View.readCov_full _ _ _ _ _]
  exact isA hc (s22 X2 X4 k hx2 hx4) (a22 v0 X2 X3 X4 X6 k f10 hx2 hx4 hs c hc) (vblk arg6 harg6 X6 22 (by decide) _ (by decide))

/-- The quick path's sum after 24 key blocks. -/
theorem a24 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 24 (trip.sl.v779 (F := Ideal) arg2 arg3 arg4 arg6 arg8 arg10 v0 (harg2.unread X2) (harg3.unread X3) (harg4.unread X4) (harg6.unread X6) k f10) := by
  rw [show trip.sl.v779 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v748 (F := Ideal) arg2 arg4 arg10 (harg2.unread X2) (harg4.unread X4) k) (trip.sl.v754 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 23, 0, 0] S1x1x1x80x256.size (by decide)).toLoadRect (harg6.unread X6)) from View.readCov_full _ _ _ _ _]
  exact isA hc (s23 X2 X4 k hx2 hx4) (a23 v0 X2 X3 X4 X6 k f10 hx2 hx4 hs c hc) (vblk arg6 harg6 X6 23 (by decide) _ (by decide))

/-- The quick path's sum after 25 key blocks. -/
theorem a25 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 25 (trip.sl.v804 (F := Ideal) arg2 arg3 arg4 arg6 arg8 arg10 v0 (harg2.unread X2) (harg3.unread X3) (harg4.unread X4) (harg6.unread X6) k f10) := by
  rw [show trip.sl.v804 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v773 (F := Ideal) arg2 arg4 arg10 (harg2.unread X2) (harg4.unread X4) k) (trip.sl.v779 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 24, 0, 0] S1x1x1x80x256.size (by decide)).toLoadRect (harg6.unread X6)) from View.readCov_full _ _ _ _ _]
  exact isA hc (s24 X2 X4 k hx2 hx4) (a24 v0 X2 X3 X4 X6 k f10 hx2 hx4 hs c hc) (vblk arg6 harg6 X6 24 (by decide) _ (by decide))

/-- The quick path's sum after 26 key blocks. -/
theorem a26 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 26 (trip.sl.v829 (F := Ideal) arg2 arg3 arg4 arg6 arg8 arg10 v0 (harg2.unread X2) (harg3.unread X3) (harg4.unread X4) (harg6.unread X6) k f10) := by
  rw [show trip.sl.v829 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v798 (F := Ideal) arg2 arg4 arg10 (harg2.unread X2) (harg4.unread X4) k) (trip.sl.v804 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 25, 0, 0] S1x1x1x80x256.size (by decide)).toLoadRect (harg6.unread X6)) from View.readCov_full _ _ _ _ _]
  exact isA hc (s25 X2 X4 k hx2 hx4) (a25 v0 X2 X3 X4 X6 k f10 hx2 hx4 hs c hc) (vblk arg6 harg6 X6 25 (by decide) _ (by decide))

/-- The quick path's sum after 27 key blocks. -/
theorem a27 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 27 (trip.sl.v854 (F := Ideal) arg2 arg3 arg4 arg6 arg8 arg10 v0 (harg2.unread X2) (harg3.unread X3) (harg4.unread X4) (harg6.unread X6) k f10) := by
  rw [show trip.sl.v854 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v823 (F := Ideal) arg2 arg4 arg10 (harg2.unread X2) (harg4.unread X4) k) (trip.sl.v829 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 26, 0, 0] S1x1x1x80x256.size (by decide)).toLoadRect (harg6.unread X6)) from View.readCov_full _ _ _ _ _]
  exact isA hc (s26 X2 X4 k hx2 hx4) (a26 v0 X2 X3 X4 X6 k f10 hx2 hx4 hs c hc) (vblk arg6 harg6 X6 26 (by decide) _ (by decide))

/-- The quick path's sum after 28 key blocks. -/
theorem a28 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 28 (trip.sl.v879 (F := Ideal) arg2 arg3 arg4 arg6 arg8 arg10 v0 (harg2.unread X2) (harg3.unread X3) (harg4.unread X4) (harg6.unread X6) k f10) := by
  rw [show trip.sl.v879 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v848 (F := Ideal) arg2 arg4 arg10 (harg2.unread X2) (harg4.unread X4) k) (trip.sl.v854 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 27, 0, 0] S1x1x1x80x256.size (by decide)).toLoadRect (harg6.unread X6)) from View.readCov_full _ _ _ _ _]
  exact isA hc (s27 X2 X4 k hx2 hx4) (a27 v0 X2 X3 X4 X6 k f10 hx2 hx4 hs c hc) (vblk arg6 harg6 X6 27 (by decide) _ (by decide))

/-- The quick path's sum after 29 key blocks. -/
theorem a29 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 29 (trip.sl.v904 (F := Ideal) arg2 arg3 arg4 arg6 arg8 arg10 v0 (harg2.unread X2) (harg3.unread X3) (harg4.unread X4) (harg6.unread X6) k f10) := by
  rw [show trip.sl.v904 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v873 (F := Ideal) arg2 arg4 arg10 (harg2.unread X2) (harg4.unread X4) k) (trip.sl.v879 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 28, 0, 0] S1x1x1x80x256.size (by decide)).toLoadRect (harg6.unread X6)) from View.readCov_full _ _ _ _ _]
  exact isA hc (s28 X2 X4 k hx2 hx4) (a28 v0 X2 X3 X4 X6 k f10 hx2 hx4 hs c hc) (vblk arg6 harg6 X6 28 (by decide) _ (by decide))

/-- The quick path's sum after 30 key blocks. -/
theorem a30 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 30 (trip.sl.v929 (F := Ideal) arg2 arg3 arg4 arg6 arg8 arg10 v0 (harg2.unread X2) (harg3.unread X3) (harg4.unread X4) (harg6.unread X6) k f10) := by
  rw [show trip.sl.v929 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v898 (F := Ideal) arg2 arg4 arg10 (harg2.unread X2) (harg4.unread X4) k) (trip.sl.v904 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 29, 0, 0] S1x1x1x80x256.size (by decide)).toLoadRect (harg6.unread X6)) from View.readCov_full _ _ _ _ _]
  exact isA hc (s29 X2 X4 k hx2 hx4) (a29 v0 X2 X3 X4 X6 k f10 hx2 hx4 hs c hc) (vblk arg6 harg6 X6 29 (by decide) _ (by decide))

/-- The quick path's sum after 31 key blocks. -/
theorem a31 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 31 (trip.sl.v956 (F := Ideal) arg2 arg3 arg4 arg6 arg8 arg10 v0 (harg2.unread X2) (harg3.unread X3) (harg4.unread X4) (harg6.unread X6) k f10) := by
  rw [show trip.sl.v956 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v923 (F := Ideal) arg2 arg4 arg10 (harg2.unread X2) (harg4.unread X4) k) (trip.sl.v929 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 30, 0, 0] S1x1x1x80x256.size (by decide)).toLoadRect (harg6.unread X6)) from View.readCov_full _ _ _ _ _]
  exact isA hc (s30 X2 X4 k hx2 hx4) (a30 v0 X2 X3 X4 X6 k f10 hx2 hx4 hs c hc) (vblk arg6 harg6 X6 30 (by decide) _ (by decide))

/-- The quick path's sum after 32 key blocks. -/
theorem a32 (hx2 : ∀ i, ∃ r : ℝ, X2 i = (r : EReal)) (hx4 : ∀ i, ∃ r : ℝ, X4 i = (r : EReal)) (hs : IsS (KR X4) (QR X2 k.val) 0 (trip.sl.v69 (F := Ideal) arg10 f10)) (c : Fin 1024 → ℝ) (hc : ∀ col, trip.sl.r (F := Ideal) arg3 v0 (harg3.unread X3) k (ix2 0 col) = (c col : EReal)) : IsA (KR X4) (VR X6) (QR X2 k.val) c 32 (trip.sl.v973_1 (F := Ideal) arg2 arg3 arg4 arg6 arg8 arg10 v0 (harg2.unread X2) (harg3.unread X3) (harg4.unread X4) (harg6.unread X6) k f10) := by
  rw [show trip.sl.v973_1 (F := Ideal) arg2 arg3 arg4 arg6 arg8 arg10 v0 (harg2.unread X2) (harg3.unread X3) (harg4.unread X4) (harg6.unread X6) k f10
    = k0_pay32 (F := Ideal) (trip.sl.r (F := Ideal) arg3 v0 (harg3.unread X3) k) (trip.sl.v950 (F := Ideal) arg2 arg4 arg10 (harg2.unread X2) (harg4.unread X4) k) (trip.sl.v956 (F := Ideal) arg2 arg3 arg4 arg6 arg8 arg10 v0 (harg2.unread X2) (harg3.unread X3) (harg4.unread X4) (harg6.unread X6) k f10)
        (View.readAt (Elt Ideal) arg6.view (Rect.unit (s := S1x1x32x80x256) ![0, 0, 31, 0, 0] S1x1x1x80x256.size (by decide)).toLoadRect (harg6.unread X6)) from View.readCov_full _ _ _ _ _]
  exact isA hc (s31 X2 X4 k hx2 hx4) (a31 v0 X2 X3 X4 X6 k f10 hx2 hx4 hs c hc) (vblk arg6 harg6 X6 31 (by decide) _ (by decide))

end Cert.AttnIdeal.Value
end
-- ==== Proof.AttnKeep.lean ====
/- Hand-written, untrusted: what the loop over the query blocks keeps, and the block it leaves. -/
module
public import proofs.«01_k».proof.Proof.AttnChain
@[expose] public section
set_option maxRecDepth 16384
noncomputable section
open Idealize.ShloMosaic Idealize.ShloMosaic.TcCoe Idealize.SL.Sem
open scoped BigOperators
namespace Cert.AttnIdeal.Value
open Cert.AttnIdeal Cert.AttnIdeal.Gen

/-- The sum of the weights at the shift `c`. -/
def den (kr : ℕ → Fin 256 → Fin 128 → ℝ) (q : Fin 128 → Fin 1024 → ℝ) (c : Fin 1024 → ℝ) (col : Fin 1024) : ℝ :=
  ∑ j ∈ Finset.range 32, ∑ r, (2 : ℝ) ^ (st kr q j r col - c col)

/-- One entry of the block's result: the weighted sum over the sum of the weights. -/
def outR (kr : ℕ → Fin 256 → Fin 128 → ℝ) (w : ℕ → Fin 80 → Fin 256 → EReal) (q : Fin 128 → Fin 1024 → ℝ) (r e : Fin 256) : EReal :=
  acc kr w q (fun _ => 0) 32 ⟨e.val % 64, by omega⟩ ⟨256 * (e.val / 64) + r.val, by omega⟩ * (((den kr q (fun _ => 0) ⟨256 * (e.val / 64) + r.val, by omega⟩)⁻¹ : ℝ) : EReal)

/-- A shift factors out of the sum. -/
theorem acc_shift (kr : ℕ → Fin 256 → Fin 128 → ℝ) (w : ℕ → Fin 80 → Fin 256 → EReal) (q : Fin 128 → Fin 1024 → ℝ) (c : Fin 1024 → ℝ) (n : ℕ) (row : Fin 80) (col : Fin 1024) :
    acc kr w q c n row col = acc kr w q (fun _ => 0) n row col * (((2 : ℝ) ^ (-c col) : ℝ) : EReal) := by
  have hp0 : (0 : ℝ) ≤ (2 : ℝ) ^ (-c col) := Real.rpow_nonneg (by norm_num) _
  rw [acc, acc, sum_mul_real _ _ hp0]
  refine Finset.sum_congr rfl fun j _ => ?_
  rw [sum_mul_real _ _ hp0]
  refine Finset.sum_congr rfl fun r _ => ?_
  rw [mul_assoc, ← EReal.coe_mul, ← Real.rpow_add (by norm_num)]
  congr 3; ring

/-- It factors out of the sum of the weights. -/
theorem den_shift (kr : ℕ → Fin 256 → Fin 128 → ℝ) (q : Fin 128 → Fin 1024 → ℝ) (c : Fin 1024 → ℝ) (col : Fin 1024) :
    den kr q c col = den kr q (fun _ => 0) col * (2 : ℝ) ^ (-c col) := by
  simp only [den, Finset.sum_mul]
  refine Finset.sum_congr rfl fun j _ => Finset.sum_congr rfl fun r _ => ?_
  rw [← Real.rpow_add (by norm_num)]
  congr 1; ring

/-- The sum of the weights is positive. -/
theorem den_pos (kr : ℕ → Fin 256 → Fin 128 → ℝ) (q : Fin 128 → Fin 1024 → ℝ) (c : Fin 1024 → ℝ) (col : Fin 1024) : 0 < den kr q c col :=
  Finset.sum_pos (fun j _ => Finset.sum_pos (fun r _ => Real.rpow_pos_of_pos (by norm_num) _) ⟨0, Finset.mem_univ _⟩) ⟨0, by simp⟩

/-- The row of ones holds the sum of the weights. -/
theorem acc_den (kr : ℕ → Fin 256 → Fin 128 → ℝ) (w : ℕ → Fin 80 → Fin 256 → EReal) (q : Fin 128 → Fin 1024 → ℝ) (c : Fin 1024 → ℝ) (h1 : ∀ n r, w n 64 r = 1) (col : Fin 1024) :
    acc kr w q c 32 64 col = (den kr q c col : EReal) := by
  rw [acc, den, coe_sum_set]
  refine Finset.sum_congr rfl fun j _ => ?_
  rw [coe_sum_set]
  exact Finset.sum_congr rfl fun r _ => by rw [h1, one_mul]

/-- The stored quotient, whatever the shift. -/
theorem pay60_out {kr : ℕ → Fin 256 → Fin 128 → ℝ} {w : ℕ → Fin 80 → Fin 256 → EReal} {q : Fin 128 → Fin 1024 → ℝ} {c : Fin 1024 → ℝ} {A : FVec Ideal S80x1024 .f32} (h1 : ∀ n r, w n 64 r = 1)
    (hA : IsA kr w q c 32 A) (r e : Fin 256) : k0_pay60 (F := Ideal) A (ix3 0 r e) = outR kr w q r e := by
  have h := pay60_pt A r ⟨e.val / 64, by omega⟩ ⟨e.val % 64, Nat.mod_lt _ (by decide)⟩
  have he : (⟨64 * (e.val / 64) + e.val % 64, by omega⟩ : Fin 256) = e := Fin.ext (by show 64 * (e.val / 64) + e.val % 64 = e.val; omega)
  rw [he] at h
  rw [h, hA, hA, acc_den kr w q c h1, acc_shift]
  have hp := den_pos kr q c ⟨256 * (e.val / 64) + r.val, by omega⟩
  have hp0 := den_pos kr q (fun _ => 0) ⟨256 * (e.val / 64) + r.val, by omega⟩
  have h2 : (0 : ℝ) < (2 : ℝ) ^ (-c ⟨256 * (e.val / 64) + r.val, by omega⟩) := Real.rpow_pos_of_pos (by norm_num) _
  rw [Ideal.div, if_neg (by exact_mod_cast hp.ne'), ← EReal.coe_inv, mul_assoc, ← EReal.coe_mul]
  unfold outR
  congr 2
  rw [den_shift]
  field_simp

/-- The block a grid point leaves. -/
def outF (X2 : FVec Ideal S1x1x32x128x1024 .bf16) (X4 : FVec Ideal S1x8192x128 .bf16) (X6 : FVec Ideal S1x1x32x80x256 .bf16) : FVec Ideal S1x8192x256 .bf16 := fun y =>
  outR (KR X4) (VR X6) (QR X2 ((y 1).val / 256)) ⟨(y 1).val % 256, Nat.mod_lt _ (by decide)⟩ ⟨(y 2).val, (y 2).isLt⟩

/-- A store of a block of rows leaves the block where the block holds it, and below it what was there. -/
theorem rows_step {κ sp} (v : View sig κ sp S1x8192x256 .bf16) (g : v.ty.Contents (Elt Ideal)) (o : ℕ) {off : Fin 3 → ℕ} (hoff : off = ![0, 256 * o, 0]) (inb)
    (w : FVec Ideal S1x256x256 .bf16) (O : FVec Ideal S1x8192x256 .bf16)
    (hg : ∀ y : S1x8192x256.Idx, (y 1).val / 256 < o → v.read (Elt Ideal) g y = O y)
    (hw : ∀ y : S1x8192x256.Idx, (y 1).val / 256 = o → w (ix3 0 ⟨(y 1).val % 256, Nat.mod_lt _ (by decide)⟩ ⟨(y 2).val, (y 2).isLt⟩) = O y) (y : S1x8192x256.Idx) (hy : (y 1).val / 256 < o + 1) :
    v.read (Elt Ideal) (v.writes (Elt Ideal) g [⟨Rect.unit (s := S1x8192x256) off S1x256x256.size inb, w⟩]) y = O y := by
  subst hoff
  rcases Nat.lt_succ_iff_lt_or_eq.mp hy with h | h
  · rw [View.read_writes_cons_unit_of_not_mem v g inb w [] y rfl 1 (Or.inl (by show (y 1).val < 256 * o; omega))]
    exact hg y h
  · rw [View.read_writes_cons_unit_of_mem v g inb w [] y (ix3 0 ⟨(y 1).val % 256, Nat.mod_lt _ (by decide)⟩ ⟨(y 2).val, (y 2).isLt⟩) rfl (fun a => by
      fin_cases a
      · have : (y 0).val < 1 := (y 0).isLt
        show (y 0).val = 0 + 0; omega
      · show (y 1).val = 256 * o + (y 1).val % 256; omega
      · show (y 2).val = 0 + (y 2).val; omega)]
    exact hw y h

/-- The newest store is read back at its own place. -/
theorem first {sig : RefSig} {κ : Kind} {sp : Space} {s : Shape} {e : EltTy} {Val : EltTy → Type} (v : View sig κ sp s e) (f : v.ty.Contents Val) {o1 size : Fin s.rank → ℕ}
    (h1 : ∀ a, o1 a + size a ≤ s.size a) (h2 : ∀ a, o1 a + size a ≤ s.size a)
    (w1 : (Rect.unit (s := s) o1 size h1).shape.Idx → Val e) (L : List (View.Piece Val s e)) :
    v.readAt Val (Rect.unit (s := s) o1 size h2).toLoadRect (v.writes Val f (⟨Rect.unit (s := s) o1 size h1, w1⟩ :: L)) = w1 := by
  funext x
  have hx : ∀ b, (((Rect.unit (s := s) o1 size h2).toLoadRect.idx x) b).val = o1 b + (x b).val := fun b => by
    show o1 b + 1 * (x b).val = _; rw [Nat.one_mul]
  exact View.read_writes_cons_unit_of_mem v f h1 w1 L _ x rfl hx

variable (c : Dev nD) (i : grid0.Coords) (arg2 : Memref sig .tc .vmem S1x1x32x128x1024 .bf16) (harg2 : arg2.IsWhole) (arg3 : Memref sig .tc .vmem S1x1x32x1x1024 .f32) (harg3 : arg3.IsWhole) (arg4 : Memref sig .tc .vmem S1x8192x128 .bf16) (harg4 : arg4.IsWhole) (arg5 : Memref sig .tc .vmem S1x1x1x8192 .f32) (harg5 : arg5.IsWhole) (arg6 : Memref sig .tc .vmem S1x1x32x80x256 .bf16) (harg6 : arg6.IsWhole) (arg7 : Memref sig .tc .vmem S1x8192x256 .bf16) (harg7 : arg7.IsWhole) (arg8 : Memref sig .tc .vmem S80x1024 .f32) (harg8 : arg8.IsWhole) (arg9 : Memref sig .tc .vmem S80x1024 .f32) (harg9 : arg9.IsWhole) (arg10 : Memref sig .tc .vmem S2x256x1024 .f32) (harg10 : arg10.IsWhole) (arg11 : Memref sig .tc .vmem S1x1024 .f32) (harg11 : arg11.IsWhole)
  (v0 : Vec Ideal S1x1x1x8192 .f32) (X2 : FVec Ideal S1x1x32x128x1024 .bf16) (X3 : FVec Ideal S1x1x32x1x1024 .f32) (X4 : FVec Ideal S1x8192x128 .bf16) (X6 : FVec Ideal S1x1x32x80x256 .bf16)
  (k : Fin k0_t1_loop.trips)

/-- The quick path's shift is a real number in every column. -/
theorem shift_real (hx3 : ∀ i, ∃ r : ℝ, X3 i = (r : EReal)) (hv : ∀ s, ∃ r : ℝ, 0 ≤ r ∧ v0 (ix4 0 0 0 s) = (r : EReal)) :
    ∃ c : Fin 1024 → ℝ, ∀ col, trip.sl.r (F := Ideal) arg3 v0 (harg3.unread X3) k (ix2 0 col) = (c col : EReal) := by
  choose b hb0 hb using hv
  obtain ⟨m, hm, hle⟩ := fold_max_real (n := 8191) b
  have hm0 : 0 ≤ m := (hb0 0).trans (hle 0)
  have hs : k0_pay92 (F := Ideal) v0 (ix2 0 0) = ((Real.sqrt m : ℝ) : EReal) := by
    rw [pay92_pt, ninf_eq]
    simp only [hb]
    rw [hm]
    show (if m < 0 then ⊥ else _) = _
    rw [if_neg (not_lt.mpr hm0)]
  have hy : ∀ col, ∃ r : ℝ, k0_pay2 (F := Ideal) (k0_pay92 v0) (View.readAt (Elt Ideal) arg3.view (Rect.unit (s := S1x1x32x1x1024) (k0_off1 k) S1x1x1x1x1024.size (k0_off1_inb k)).toLoadRect (harg3.unread X3)) (ix2 0 col) = (r : EReal) := fun col => by
    rw [pay2_pt, hs, Memref.IsWhole.readAt_unread]
    obtain ⟨x, hx⟩ := hx3 ((Rect.unit (s := S1x1x32x1x1024) (k0_off1 k) S1x1x1x1x1024.size (k0_off1_inb k)).toLoadRect.idx (ix5 0 0 0 0 col))
    exact ⟨x * Real.sqrt m, by rw [EReal.coe_mul]; exact congrArg (· * _) hx⟩
  choose d hd using hy
  exact ⟨d, hd⟩

/-- What one trip of the rescaling path stores in the accumulator. -/
theorem t2_acc (k2 : Fin k0_t2_loop.trips) (f8 : BufTy.Contents (Elt Ideal) arg8.view.ty) (f11 : BufTy.Contents (Elt Ideal) arg11.view.ty) :
    (trip_k0_t2 (F := Ideal) Variants.none c none i arg2 harg2 arg3 harg3 arg4 harg4 arg5 harg5 arg6 harg6 arg7 harg7 arg8 harg8 arg9 harg9 arg10 harg10 arg11 harg11 k (harg2.unread X2) (harg4.unread X4) (harg6.unread X6) k2).1 f8 f11 = [⟨(Rect.unit (s := S80x1024) ![0, 0] S80x1024.size inb_S80x1024_S80x1024_0_0), k0_pay101 (F := Ideal) (View.readAt (Elt Ideal) arg4.view (Rect.unit (s := S1x8192x128) (k0_off7 k2) S1x256x128.size (k0_off7_inb k2)).toLoadRect (harg4.unread X4)) (View.readAt (Elt Ideal) arg2.view (Rect.unit (s := S1x1x32x128x1024) (k0_off8 k) S1x1x1x128x1024.size (k0_off8_inb k)).toLoadRect (harg2.unread X2)) (View.readAt (Elt Ideal) arg11.view (Rect.unit (s := S1x1024) ![0, 0] S1x1024.size inb_S1x1024_S1x1024_0_0).toLoadRect f11) (View.readAt (Elt Ideal) arg8.view (Rect.unit (s := S80x1024) ![0, 0] S80x1024.size inb_S80x1024_S80x1024_0_0).toLoadRect f8) (View.readAt (Elt Ideal) arg6.view (Rect.unit (s := S1x1x32x80x256) (k0_off9 k2) S1x1x1x80x256.size (k0_off9_inb k2)).toLoadRect (harg6.unread X6))⟩] := by
  unfold trip_k0_t2; rfl

/-- What one trip of the rescaling path stores in the running maximum. -/
theorem t2_max (k2 : Fin k0_t2_loop.trips) (f8 : BufTy.Contents (Elt Ideal) arg8.view.ty) (f11 : BufTy.Contents (Elt Ideal) arg11.view.ty) :
    (trip_k0_t2 (F := Ideal) Variants.none c none i arg2 harg2 arg3 harg3 arg4 harg4 arg5 harg5 arg6 harg6 arg7 harg7 arg8 harg8 arg9 harg9 arg10 harg10 arg11 harg11 k (harg2.unread X2) (harg4.unread X4) (harg6.unread X6) k2).2.1 f8 f11 = [⟨(Rect.unit (s := S1x1024) ![0, 0] S1x1024.size inb_S1x1024_S1x1024_0_0), k0_pay102 (F := Ideal) (View.readAt (Elt Ideal) arg4.view (Rect.unit (s := S1x8192x128) (k0_off7 k2) S1x256x128.size (k0_off7_inb k2)).toLoadRect (harg4.unread X4)) (View.readAt (Elt Ideal) arg2.view (Rect.unit (s := S1x1x32x128x1024) (k0_off8 k) S1x1x1x128x1024.size (k0_off8_inb k)).toLoadRect (harg2.unread X2)) (View.readAt (Elt Ideal) arg11.view (Rect.unit (s := S1x1024) ![0, 0] S1x1024.size inb_S1x1024_S1x1024_0_0).toLoadRect f11)⟩] := by
  unfold trip_k0_t2; rfl

/-- The rescaling path's state before its trip `n`. -/
theorem pb_state (hx2 : ∀ i, ∃ r : ℝ, X2 i = (r : EReal)) (hx4 : ∀ i, ∃ r : ℝ, X4 i = (r : EReal))
    (G8 : BufTy.Contents (Elt Ideal) arg8.view.ty) (G11 : BufTy.Contents (Elt Ideal) arg11.view.ty)
    (h0 : IsE (KR X4) (VR X6) (QR X2 k.val) 0 (arg8.view.read (Elt Ideal) G8) (arg11.view.read (Elt Ideal) G11)) (n : ℕ) (hn : n ≤ k0_t2_loop.trips) :
    IsE (KR X4) (VR X6) (QR X2 k.val) n (arg8.view.read (Elt Ideal) (arg8.view.writes (Elt Ideal) G8 (pb_k0_t2 (F := Ideal) Variants.none c none i arg2 harg2 arg3 harg3 arg4 harg4 arg5 harg5 arg6 harg6 arg7 harg7 arg8 harg8 arg9 harg9 arg10 harg10 arg11 harg11 k (harg2.unread X2) (harg4.unread X4) (harg6.unread X6) G8 G11 n).1))
      (arg11.view.read (Elt Ideal) (arg11.view.writes (Elt Ideal) G11 (pb_k0_t2 (F := Ideal) Variants.none c none i arg2 harg2 arg3 harg3 arg4 harg4 arg5 harg5 arg6 harg6 arg7 harg7 arg8 harg8 arg9 harg9 arg10 harg10 arg11 harg11 k (harg2.unread X2) (harg4.unread X4) (harg6.unread X6) G8 G11 n).2)) := by
  induction n with
  | zero => exact h0
  | succ n ih =>
    have ih := ih (Nat.le_of_succ_le hn)
    have e := pb_k0_t2_succ (F := Ideal) Variants.none c none i arg2 harg2 arg3 harg3 arg4 harg4 arg5 harg5 arg6 harg6 arg7 harg7 arg8 harg8 arg9 harg9 arg10 harg10 arg11 harg11 k (harg2.unread X2) (harg4.unread X4) (harg6.unread X6) G8 G11 ⟨n, hn⟩
    dsimp only at e
    rw [e]
    dsimp only
    rw [t2_acc, t2_max]
    rw [List.singleton_append, List.singleton_append, View.read_writes_full, View.read_writes_full]
    refine isE (kblk arg4 harg4 X4 hx4 n (t2_lt ⟨n, hn⟩) _ (off7_eq ⟨n, hn⟩)) (qblk arg2 harg2 X2 hx2 k.val (t1_lt k) _ (off8_eq k))
      (vblk arg6 harg6 X6 n (t2_lt ⟨n, hn⟩) _ (off9_eq ⟨n, hn⟩)) ?_
    rw [View.readAt_full, View.readAt_full]
    exact ih

/-- The rescaling path's accumulator. -/
theorem slow_acc (hx2 : ∀ i, ∃ r : ℝ, X2 i = (r : EReal)) (hx4 : ∀ i, ∃ r : ℝ, X4 i = (r : EReal))
    (f10 : BufTy.Contents (Elt Ideal) arg10.view.ty) :
    ∃ d, IsA (KR X4) (VR X6) (QR X2 k.val) d 32 (trip.sl.v973 (F := Ideal) c i arg2 harg2 arg3 harg3 arg4 harg4 arg5 harg5 arg6 harg6 arg7 harg7 arg8 harg8 arg9 harg9 arg10 harg10 arg11 harg11 v0 (harg2.unread X2) (harg3.unread X3) (harg4.unread X4) (harg6.unread X6) k f10) := by
  have h := pb_state c i arg2 harg2 arg3 harg3 arg4 harg4 arg5 harg5 arg6 harg6 arg7 harg7 arg8 harg8 arg9 harg9 arg10 harg10 arg11 harg11 X2 X4 X6 k hx2 hx4
    (arg8.view.writes (Elt Ideal) arg8.view.junk (trip.sl.H8_34 (F := Ideal) arg2 arg3 arg4 arg6 arg8 arg10 v0 (harg2.unread X2) (harg3.unread X3) (harg4.unread X4) (harg6.unread X6) k f10))
    (arg11.view.writes (Elt Ideal) arg11.view.junk (trip.sl.H11_1 (F := Ideal)))
    (Or.inl ⟨rfl, fun row col => by
      rw [show arg8.view.read (Elt Ideal) (arg8.view.writes (Elt Ideal) arg8.view.junk (trip.sl.H8_34 (F := Ideal) arg2 arg3 arg4 arg6 arg8 arg10 v0 (harg2.unread X2) (harg3.unread X3) (harg4.unread X4) (harg6.unread X6) k f10))
        = k0_pay98 (F := Ideal) from View.read_writes_full _ _ _ _ _]
      exact pay98_pt row col, fun col => by
      rw [show arg11.view.read (Elt Ideal) (arg11.view.writes (Elt Ideal) arg11.view.junk (trip.sl.H11_1 (F := Ideal))) = k0_pay97 (F := Ideal) from View.read_writes_full _ _ _ _ _]
      exact pay97_pt col⟩) 32 (by decide)
  rcases h with ⟨h, -⟩ | ⟨d, -, h⟩
  · exact absurd h (by decide)
  · refine ⟨d, ?_⟩
    rw [← View.writes_append] at h
    unfold trip.sl.v973
    rw [View.readCov]
    erw [View.readAt_full]
    exact h

/-- What holds before trip `n`. -/
def PK (X2 : FVec Ideal S1x1x32x128x1024 .bf16) (X4 : FVec Ideal S1x8192x128 .bf16) (X6 : FVec Ideal S1x1x32x80x256 .bf16) (n : ℕ) (g7 : BufTy.Contents (Elt Ideal) arg7.view.ty) (g9 : BufTy.Contents (Elt Ideal) arg9.view.ty) (g10 : BufTy.Contents (Elt Ideal) arg10.view.ty) : Prop :=
  IsS (KR X4) (QR X2 (min n 31)) 0 (View.readAt (Elt Ideal) arg10.view (Rect.unit (s := S2x256x1024) ![0, 0, 0] S1x256x1024.size inb_S2x256x1024_S1x256x1024_0_0_0).toLoadRect g10)
  ∧ (1 ≤ n → ∃ d, IsA (KR X4) (VR X6) (QR X2 (n - 1)) d 32 (View.readAt (Elt Ideal) arg9.view (Rect.unit (s := S80x1024) ![0, 0] S80x1024.size inb_S80x1024_S80x1024_0_0).toLoadRect g9))
  ∧ ∀ y : S1x8192x256.Idx, (y 1).val / 256 < n - 1 → arg7.view.read (Elt Ideal) g7 y = outF X2 X4 X6 y

/-- The loop over the query blocks keeps it. -/
theorem keeps (hx2 : ∀ i, ∃ r : ℝ, X2 i = (r : EReal)) (hx3 : ∀ i, ∃ r : ℝ, X3 i = (r : EReal)) (hv : ∀ s, ∃ r : ℝ, 0 ≤ r ∧ v0 (ix4 0 0 0 s) = (r : EReal))
    (hx4 : ∀ i, ∃ r : ℝ, X4 i = (r : EReal)) (h1 : ∀ n r, VR X6 n 64 r = 1) :
    Keeps (F := Ideal) c i arg2 harg2 arg3 harg3 arg4 harg4 arg5 harg5 arg6 harg6 arg7 harg7 arg8 harg8 arg9 harg9 arg10 harg10 arg11 harg11 v0 (harg2.unread X2) (harg3.unread X3) (harg4.unread X4) (harg6.unread X6) (PK arg7 arg9 arg10 X2 X4 X6) := by
  refine ⟨fun g7 g9 j => ⟨?_, fun h => absurd h (by decide), fun y h => absurd h (by simp)⟩, ?_⟩
  · rw [first]
    exact isS (kblk arg4 harg4 X4 hx4 0 (by decide) _ (by decide)) (qblk arg2 harg2 X2 hx2 0 (by decide) _ (by decide))
  · intro k g7 g9 g10 j9 j10 W hP hW
    obtain ⟨hS, hA, hR⟩ := hP
    have hk := t1_lt k
    have hmin : min k.val 31 = k.val := min_eq_left (by omega)
    rw [hmin] at hS
    have hWA : ∃ d, IsA (KR X4) (VR X6) (QR X2 k.val) d 32 W := by
      rcases hW with rfl | rfl
      · exact slow_acc c i arg2 harg2 arg3 harg3 arg4 harg4 arg5 harg5 arg6 harg6 arg7 harg7 arg8 harg8 arg9 harg9 arg10 harg10 arg11 harg11 v0 X2 X3 X4 X6 k hx2 hx4 g10
      · obtain ⟨d, hd⟩ := shift_real arg3 harg3 v0 X3 k hx3 hv
        exact ⟨d, a32 v0 X2 X3 X4 X6 k g10 hx2 hx4 hS d hd⟩
    refine ⟨?_, fun _ => ?_, ?_⟩
    · rw [show (trip (F := Ideal) c i arg2 harg2 arg3 harg3 arg4 harg4 arg5 harg5 arg6 harg6 arg7 harg7 arg8 harg8 arg9 harg9 arg10 harg10 arg11 harg11 v0 (harg2.unread X2) (harg3.unread X3) (harg4.unread X4) (harg6.unread X6) k).2.2.1 = trip.sl.H10_32 (F := Ideal) arg2 arg4 (harg2.unread X2) (harg4.unread X4) k from rfl]
      unfold trip.sl.H10_32
      rw [first]
      exact isS (kblk arg4 harg4 X4 hx4 0 (by decide) _ (by decide)) (qblk arg2 harg2 X2 hx2 (min (k.val + 1) 31) (by omega) _ (off6_eq k))
    · rw [View.readAt_writes_full, pay103_pt]
      exact hWA
    · intro y hy
      rcases Nat.eq_zero_or_pos k.val with h0 | h0
      · rw [h0] at hy; exact absurd hy (by simp)
      · obtain ⟨d, hd⟩ := hA h0
        refine rows_step arg7.view g7 (k.val - 1) (off5_eq k) _ _ (outF X2 X4 X6) hR (fun y hy => ?_) y (by omega)
        rw [pay60_out h1 hd]
        unfold outF
        rw [hy]

/-- After the loop and the last store the block is whole. -/
theorem keeps_end (h1 : ∀ n r, VR X6 n 64 r = 1) (g7 : BufTy.Contents (Elt Ideal) arg7.view.ty) (g9 : BufTy.Contents (Elt Ideal) arg9.view.ty) (g10 : BufTy.Contents (Elt Ideal) arg10.view.ty)
    (h : PK arg7 arg9 arg10 X2 X4 X6 k0_t1_loop.trips g7 g9 g10) :
    arg7.view.read (Elt Ideal) (arg7.view.writes (Elt Ideal) g7 [⟨(Rect.unit (s := S1x8192x256) ![0, 7936, 0] S1x256x256.size inb_S1x8192x256_S1x256x256_0_7936_0), k0_pay1 (View.readAt (Elt Ideal) arg9.view (Rect.unit (s := S80x1024) ![0, 0] S80x1024.size inb_S80x1024_S80x1024_0_0).toLoadRect g9) (k0_pay104 (View.readAt (Elt Ideal) arg9.view (Rect.unit (s := S80x1024) ![0, 0] S80x1024.size inb_S80x1024_S80x1024_0_0).toLoadRect g9)) (k0_pay105 (View.readAt (Elt Ideal) arg9.view (Rect.unit (s := S80x1024) ![0, 0] S80x1024.size inb_S80x1024_S80x1024_0_0).toLoadRect g9))⟩]) = outF X2 X4 X6 := by
  obtain ⟨-, hA, hR⟩ := h
  obtain ⟨d, hd⟩ := hA (by decide)
  funext y
  refine rows_step arg7.view g7 31 rfl _ _ (outF X2 X4 X6) hR (fun y hy => ?_) y (by have : (y 1).val < 8192 := (y 1).isLt; omega)
  rw [pay1_eq, pay60_out h1 hd]
  unfold outF
  rw [hy]
  rfl

end Cert.AttnIdeal.Value
end
-- ==== Proof.AttnRun.lean ====
/- Hand-written, untrusted: the attention kernel's run with its output block by block. -/
module
public import proofs.«01_k».proof.Proof.AttnIdealFrame
public import proofs.«01_k».proof.Proof.AttnKeep
public import Idealize.ShloMosaic.Lib.Pipeline.Value
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open scoped BigOperators
namespace Cert.AttnIdeal.Value
open Cert.AttnIdeal Cert.AttnIdeal.Gen

variable (m : (ℓ : Loc nD τ sig) → Buf (Elt Ideal) ℓ) (ρ : Dev nD → PrngReg)

/-- What each grid point leaves in the output's block. -/
def outO (c : Dev nD) (t : Fin cfg0.N) : Vec Ideal S1x8192x256 .bf16 := outF (iblk m c 0 t) (iblk m c 2 t) (iblk m c 4 t)

/-- The blocks hold real numbers, the keys' norms are not negative, and the values' extra row is all ones. -/
structure Good (c : Dev nD) (t : Fin cfg0.N) : Prop where
  h0 : ∀ i : S1x1x32x128x1024.Idx, ∃ r : ℝ, (iblk m c 0 t : FVec Ideal S1x1x32x128x1024 .bf16) i = (r : EReal)
  h1 : ∀ i : S1x1x32x1x1024.Idx, ∃ r : ℝ, (iblk m c 1 t : FVec Ideal S1x1x32x1x1024 .f32) i = (r : EReal)
  h2 : ∀ i : S1x8192x128.Idx, ∃ r : ℝ, (iblk m c 2 t : FVec Ideal S1x8192x128 .bf16) i = (r : EReal)
  h3 : ∀ i : S1x1x1x8192.Idx, ∃ r : ℝ, 0 ≤ r ∧ (iblk m c 3 t : FVec Ideal S1x1x1x8192 .f32) i = (r : EReal)
  hone : ∀ n r, VR (iblk m c 4 t) n 64 r = 1

set_option maxHeartbeats 2000000 in
/-- The body's obligation with the output's block named. -/
theorem obligation (hg : ∀ c t, Good m c t) (c : Dev nD) : Pipeline.BodyObligation (datsO (F := Ideal) m (outO m) 0 c) (defs₀ (F := Ideal)) Variants.none () Set.univ := fun t => by
  rw [bigSep_W0, bigSep_W0, defs₀_row]
  show iprop(Pipeline.ΦA spec0 c ∗ _ ∗ (∃ d, owns (c : Thread nD τ) (ms0_0 t) fullShare ((datsO m _ 0 c).before 0 t d)) ∗ (∃ d, owns (c : Thread nD τ) (ms0_1 t) fullShare ((datsO m _ 0 c).before 1 t d))
    ∗ (∃ d, owns (c : Thread nD τ) (ms0_2 t) fullShare ((datsO m _ 0 c).before 2 t d)) ∗ (∃ d, owns (c : Thread nD τ) (ms0_3 t) fullShare ((datsO m _ 0 c).before 3 t d))
    ∗ (∃ d, owns (c : Thread nD τ) (ms0_4 t) fullShare ((datsO m _ 0 c).before 4 t d)) ∗ (∃ d, owns (c : Thread nD τ) (ms0_5 t) fullShare ((datsO m _ 0 c).before 5 t d)))
    ⊢ wp _ _ _ (bodyAt0 t) (fun _ => iprop(Pipeline.ΦA spec0 c ∗ _ ∗ owns (c : Thread nD τ) (ms0_0 t) fullShare ((datsO m _ 0 c).after 0 t) ∗ owns (c : Thread nD τ) (ms0_1 t) fullShare ((datsO m _ 0 c).after 1 t)
    ∗ owns (c : Thread nD τ) (ms0_2 t) fullShare ((datsO m _ 0 c).after 2 t) ∗ owns (c : Thread nD τ) (ms0_3 t) fullShare ((datsO m _ 0 c).after 3 t)
    ∗ owns (c : Thread nD τ) (ms0_4 t) fullShare ((datsO m _ 0 c).after 4 t) ∗ owns (c : Thread nD τ) (ms0_5 t) fullShare ((datsO m _ 0 c).after 5 t)))
  simp only [beforeO_0, beforeO_1, beforeO_2, beforeO_3, beforeO_4, afterO_0, afterO_1, afterO_2, afterO_3, afterO_4, afterO_5]
  iintro ⟨HP, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := Ideal)) Variants.none (c : Thread nD τ) none) Set.univ)
  isplitl [HP H0 H1 H2 H3 H4 H5]
  · iapply (sound_gen m c t (PK (ms0_5 t) scM0_1 scM0_2 (iblk m c 0 t) (iblk m c 2 t) (iblk m c 4 t)) (fun d => d = outO m c t)
      (keeps c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
        _ (iblk m c 0 t) (iblk m c 1 t) (iblk m c 2 t) (iblk m c 4 t) (hg c t).h0 (hg c t).h1 (fun s => by
          rw [Memref.IsWhole.readAt_unread]; exact (hg c t).h3 _) (hg c t).h2 (hg c t).hone)
      (fun g7 g9 g10 h => keeps_end (ms0_5 t) scM0_1 scM0_2 (iblk m c 0 t) (iblk m c 2 t) (iblk m c 4 t) (hg c t).hone g7 g9 g10 h))
    isplitl [HP]; · iexact HP
    isplitl [H0]; · iexact H0
    isplitl [H1]; · iexact H1
    isplitl [H2]; · iexact H2
    isplitl [H3]; · iexact H3
    isplitl [H4]; · iexact H4
    iexists _; iexact H5
  iintro %_ ⟨HP, H0, H1, H2, H3, H4, ⟨%X, %hX, H5⟩⟩
  obtain rfl := hX
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The run: every array of the pipeline at what its blocks say. -/
theorem run_main (hg : ∀ c t, Good m c t) : θ_run defs (onTc (τ := τ) (main (F := Ideal))) ⟨m, fun _ => 0, ρ⟩ (fun r => (Pipeline.FramePost cfgs (datsO m (outO m)) 0 (V m)) r ∧ r.2.sem = fun _ => 0) :=
  Pipeline.θ_run_frame (Q' := _) cfgs (datsO m (outO m)) (0 : Fin 1) launch0 defs₀ Variants.none m ρ main
    (hbody := fun c => (obligation m hg c).loose) (hshare := fun c w => by unfold Dat.share; exact ite_self _)
    (howed := fun _ _ => rfl) (V := V m) (hmain := hmain m Variants.none) (hA := A_eq m _) (hΦ := fun _ _ => rfl) (hQ' := fun _ h => h)

/-- The run with the output's array named and the arguments unchanged. -/
theorem run_blocks (hg : ∀ c t, Good m c t) : θ_run defs (onTc (τ := τ) (main (F := Ideal))) ⟨m, fun _ => 0, ρ⟩ fun r => ∀ c : Dev nD,
      r.2.mem ((c : Thread nD τ).loc main_v40) = (datsO m (outO m) 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ hg)

end Cert.AttnIdeal.Value
end
-- ==== Proof.AttnHost.lean ====
/- Hand-written, untrusted: the arrays the host packs for the attention kernel, and its blocks as parts of them. -/
module
public import proofs.«01_k».proof.Proof.AttnIdealFrame
public import Idealize.ShloMosaic.Lib.Pipeline.Value
public import Idealize.ShloMosaic.Lib.Pipeline.ValueKit
public import Idealize.ShloMosaic.Lib.Pipeline.ReadBack
public import Idealize.ShloMosaic.Lib.Claim
@[expose] public section
set_option maxRecDepth 16384
noncomputable section
open Idealize.ShloMosaic Idealize.ShloMosaic.TcCoe Idealize.SL.Sem
open Idealize.ShloMosaic.Pipeline (Dat)
open scoped BigOperators
namespace Cert.AttnIdeal.Value
open Cert.AttnIdeal Cert.AttnIdeal.Gen
variable (m : (ℓ : Loc nD τ sig) → Buf (Elt Ideal) ℓ) (c : Dev nD)
/-- Every window's block index at every grid point. -/
theorem idx : ∀ t : Fin cfg0.N, win0_0.index t = ![t.val / 2, t.val % 2, 0, 0, 0]
    ∧ win0_1.index t = ![t.val / 2, t.val % 2, 0, 0, 0]
    ∧ win0_2.index t = ![t.val / 2, 0, 0]
    ∧ win0_3.index t = ![t.val / 2, t.val % 2, 0, 0]
    ∧ win0_4.index t = ![t.val / 2, t.val % 2, 0, 0, 0]
    ∧ win0_5.index t = ![t.val / 2, 0, t.val % 2] :=
  (by decide +kernel : ∀ t : Fin grid0.N, _)

/-- The block of the queries. -/
theorem blk0 (t : Fin cfg0.N) (n : Fin 32) (d : Fin 128) (col : Fin 1024) (b g : Fin 2) (hb : b.val = t.val / 2) (hg : g.val = t.val % 2) :
    iblk m c 0 t (ix5 0 0 n d col) = V m c main_v23 (ix5 b g n d col) := by
  obtain ⟨e0, e1, e2, e3, e4, e5⟩ := idx t
  blk_ext [iblk, e0, hb, hg]
/-- The block of the queries' norms. -/
theorem blk1 (t : Fin cfg0.N) (n : Fin 32) (col : Fin 1024) (b g : Fin 2) (hb : b.val = t.val / 2) (hg : g.val = t.val % 2) :
    iblk m c 1 t (ix5 0 0 n 0 col) = V m c main_v12 (ix5 b g n 0 col) := by
  obtain ⟨e0, e1, e2, e3, e4, e5⟩ := idx t
  blk_ext [iblk, e1, hb, hg]
/-- The block of the keys. -/
theorem blk2 (t : Fin cfg0.N) (s : Fin 8192) (d : Fin 128) (b g : Fin 2) (hb : b.val = t.val / 2) (hg : g.val = t.val % 2) :
    iblk m c 2 t (ix3 0 s d) = V m c main_v39 (ix3 b s d) := by
  obtain ⟨e0, e1, e2, e3, e4, e5⟩ := idx t
  blk_ext [iblk, e2, hb, hg]
/-- The block of the keys' squared norms. -/
theorem blk3 (t : Fin cfg0.N) (s : Fin 8192) (b g : Fin 2) (hb : b.val = t.val / 2) (hg : g.val = t.val % 2) :
    iblk m c 3 t (ix4 0 0 0 s) = V m c main_v28 (ix4 b g 0 s) := by
  obtain ⟨e0, e1, e2, e3, e4, e5⟩ := idx t
  blk_ext [iblk, e3, hb, hg]
/-- The block of the values. -/
theorem blk4 (t : Fin cfg0.N) (n : Fin 32) (row : Fin 80) (r : Fin 256) (b g : Fin 2) (hb : b.val = t.val / 2) (hg : g.val = t.val % 2) :
    iblk m c 4 t (ix5 0 0 n row r) = V m c main_v38 (ix5 b g n row r) := by
  obtain ⟨e0, e1, e2, e3, e4, e5⟩ := idx t
  blk_ext [iblk, e4, hb, hg]
/-- Where the output block's entry lies. -/
theorem out5 (t : Fin cfg0.N) (s : Fin 8192) (e : Fin 256) (b : Fin 2) (f : Fin 512) (hb : b.val = t.val / 2) (hf : f.val = t.val % 2 * 256 + e.val) :
    ((View.whole main_v40).slice (win0_5.rect t)).emb (ix3 0 s e) = ix3 b s f := by
  obtain ⟨e0, e1, e2, e3, e4, e5⟩ := idx t
  blk_ext! [e5, hb, hf]
/-- The scaled queries. -/
def hQs (q : FVec Ideal S2x8x8192x64 .f32) : FVec Ideal S2x8x8192x64 .f32 :=
  Host.divf (mulf q (broadcastInDim S2x8x8192x64 ![] bcast_S_S2x8x8192x64 (constant S_ .f32 0x3E000000#32))) (broadcastInDim S2x8x8192x64 ![] bcast_S_S2x8x8192x64 (Host.log (constant S_ .f32 0x40000000#32)))
/-- The scaled queries, by key head, block, channel and column. -/
def hQt8 (q : FVec Ideal S2x8x8192x64 .f32) : FVec Ideal S2x2x32x64x1024 .f32 :=
  shapeCast _ (transpose S2x2x32x64x4x256 [0, 1, 3, 5, 2, 4] (shapeCast _ (hQs q) shapeCasts_S2x8x8192x64_S2x2x4x32x256x64) transposes_S2x2x4x32x256x64_S2x2x32x64x4x256_0_1_3_5_2_4) shapeCasts_S2x2x32x64x4x256_S2x2x32x64x1024
/-- One entry. -/
theorem hQt8_pt (q : FVec Ideal S2x8x8192x64 .f32) (b g : Fin 2) (n : Fin 32) (d : Fin 64) (col : Fin 1024) :
    hQt8 q (ix5 b g n d col) = hQs q (ix4 b ⟨4 * g.val + col.val / 256, by omega⟩ ⟨256 * n.val + col.val % 256, by omega⟩ d) := by
  pointwise [hQt8]
  exact congrArg (hQs q) (by congr 1 <;> exact Fin.ext (by simp only []; omega))
/-- One entry. -/
theorem hQs_pt (q : FVec Ideal S2x8x8192x64 .f32) (b : Fin 2) (h : Fin 8) (s : Fin 8192) (d : Fin 64) :
    hQs q (ix4 b h s d) = Ideal.div (q (ix4 b h s d) * Ideal.ofBits .f32 0x3E000000#32) (Ideal.log (Ideal.ofBits .f32 0x40000000#32)) := by
  pointwise [hQs]
/-- A zero half. -/
def hQz : FVec Ideal S2x32x64x1024 .f32 := broadcastInDim S2x32x64x1024 ![] bcast_S_S2x32x64x1024 (constant S_ .f32 0x00000000#32)
/-- The packed queries: each key head's channels beside a zero half. -/
def hQt (q : FVec Ideal S2x8x8192x64 .f32) : FVec Ideal S2x2x32x128x1024 .bf16 :=
  truncf .bf16 (concatenate S2x2x32x128x1024 1 [⟨S2x1x32x128x1024, broadcastInDim S2x1x32x128x1024 ![0, 2, 3, 4] bcast_S2x32x128x1024_S2x1x32x128x1024_0_2_3_4 (concatenate S2x32x128x1024 2 [⟨S2x32x64x1024, shapeCast _ (extractStridedSlice S2x1x32x64x1024 ![0, 0, 0, 0, 0] (hQt8 q) slices_S2x2x32x64x1024_S2x1x32x64x1024_0_0_0_0_0) shapeCasts_S2x1x32x64x1024_S2x32x64x1024⟩, ⟨S2x32x64x1024, hQz⟩] concatenates_S2x32x64x1024_S2x32x64x1024_S2x32x128x1024_d2)⟩,
    ⟨S2x1x32x128x1024, broadcastInDim S2x1x32x128x1024 ![0, 2, 3, 4] bcast_S2x32x128x1024_S2x1x32x128x1024_0_2_3_4 (concatenate S2x32x128x1024 2 [⟨S2x32x64x1024, hQz⟩, ⟨S2x32x64x1024, shapeCast _ (extractStridedSlice S2x1x32x64x1024 ![0, 1, 0, 0, 0] (hQt8 q) slices_S2x2x32x64x1024_S2x1x32x64x1024_0_1_0_0_0) shapeCasts_S2x1x32x64x1024_S2x32x64x1024⟩] concatenates_S2x32x64x1024_S2x32x64x1024_S2x32x128x1024_d2)⟩] concatenates_S2x1x32x128x1024_S2x1x32x128x1024_S2x2x32x128x1024_d1) bitsLt_bf16_f32
/-- One entry. -/
theorem hQt_pt (q : FVec Ideal S2x8x8192x64 .f32) (b g : Fin 2) (n : Fin 32) (d : Fin 128) (col : Fin 1024) :
    hQt q (ix5 b g n d col) = if d.val / 64 = g.val then hQt8 q (ix5 b g n ⟨d.val % 64, by omega⟩ col) else Ideal.ofBits .f32 0#32 := by
  pointwise [hQt, hQz]
  have hd := d.isLt
  rcases (by omega : g.val = 0 ∨ g.val = 1) with hg | hg
  · obtain rfl : g = 0 := Fin.ext hg
    by_cases h : d.val < 64
    · rw [dif_pos (by decide), dif_pos h, if_pos (by simp; omega)]
      exact congrArg (hQt8 q) (by congr 1; exact Fin.ext (by simp only []; omega))
    · rw [dif_pos (by decide), dif_neg h, if_neg (by simp; omega)]
  · obtain rfl : g = 1 := Fin.ext hg
    by_cases h : d.val < 64
    · rw [dif_neg (by decide), dif_pos h, if_neg (by simp; omega)]
    · rw [dif_neg (by decide), dif_neg h]
      refine Eq.trans ?_ (if_pos (by simp; omega)).symm
      exact congrArg (hQt8 q) (by congr 1; exact Fin.ext (by simp only []; omega))
/-- What the host wrote. -/
theorem V23 : V m c main_v23 = hQt (m ((c : Thread nD τ).loc main_arg0)) := by
  simp only [V, hostOps0, hostOps0_1, hostOps0_2, List.flatten_cons, List.flatten_nil, List.append_nil, List.cons_append, List.nil_append]
  after_results <;> rfl
/-- The keys, heads side by side. -/
def hK (k : FVec Ideal S2x2x8192x64 .f32) : FVec Ideal S2x8192x128 .bf16 :=
  truncf .bf16 (shapeCast _ (transpose S2x8192x2x64 [0, 2, 1, 3] k transposes_S2x2x8192x64_S2x8192x2x64_0_2_1_3) shapeCasts_S2x8192x2x64_S2x8192x128) bitsLt_bf16_f32
/-- One entry. -/
theorem hK_pt (k : FVec Ideal S2x2x8192x64 .f32) (b : Fin 2) (s : Fin 8192) (d : Fin 128) :
    hK k (ix3 b s d) = k (ix4 b ⟨d.val / 64, by omega⟩ s ⟨d.val % 64, by omega⟩) := by
  pointwise [hK]
/-- What the host wrote. -/
theorem V39 : V m c main_v39 = hK (m ((c : Thread nD τ).loc main_arg1)) := by
  simp only [V, hostOps0, hostOps0_1, hostOps0_2, List.flatten_cons, List.flatten_nil, List.append_nil, List.cons_append, List.nil_append]
  after_results <;> rfl
/-- The keys' squared norms. -/
def hKn (k : FVec Ideal S2x2x8192x64 .f32) : FVec Ideal S2x2x1x8192 .f32 :=
  broadcastInDim S2x2x1x8192 ![0, 1, 3] bcast_S2x2x8192_S2x2x1x8192_0_1_3 (Host.reduceAdd (mulf k k) (constant S_ .f32 0x00000000#32) reducesTo_S2x2x8192x64_S2x2x8192_d3 h_S_)
/-- One entry. -/
theorem hKn_pt (k : FVec Ideal S2x2x8192x64 .f32) (b g : Fin 2) (s : Fin 8192) :
    hKn k (ix4 b g 0 s) = ∑ d : Fin 64, k (ix4 b g s d) * k (ix4 b g s d) := by
  pointwise [hKn]
/-- What the host wrote. -/
theorem V28 : V m c main_v28 = hKn (m ((c : Thread nD τ).loc main_arg1)) := by
  simp only [V, hostOps0, hostOps0_1, hostOps0_2, List.flatten_cons, List.flatten_nil, List.append_nil, List.cons_append, List.nil_append]
  after_results <;> rfl
/-- The queries' norms. -/
def hQn (q : FVec Ideal S2x8x8192x64 .f32) : FVec Ideal S2x2x32x1x1024 .f32 :=
  Host.sqrt (broadcastInDim S2x2x32x1x1024 ![0, 1, 2, 4] bcast_S2x2x32x1024_S2x2x32x1x1024_0_1_2_4 (Host.reduceAdd (mulf (hQt8 q) (hQt8 q)) (constant S_ .f32 0x00000000#32) reducesTo_S2x2x32x64x1024_S2x2x32x1024_d3 h_S_))
/-- One entry. -/
theorem hQn_pt (q : FVec Ideal S2x8x8192x64 .f32) (b g : Fin 2) (n : Fin 32) (col : Fin 1024) :
    hQn q (ix5 b g n 0 col) = Ideal.sqrt (∑ d : Fin 64, hQt8 q (ix5 b g n d col) * hQt8 q (ix5 b g n d col)) := by
  pointwise [hQn]
/-- What the host wrote. -/
theorem V12 : V m c main_v12 = hQn (m ((c : Thread nD τ).loc main_arg0)) := by
  simp only [V, hostOps0, hostOps0_1, hostOps0_2, List.flatten_cons, List.flatten_nil, List.append_nil, List.cons_append, List.nil_append]
  after_results <;> rfl
/-- The values, with a row of ones below. -/
def hV (v : FVec Ideal S2x2x8192x64 .f32) : FVec Ideal S2x2x32x80x256 .bf16 :=
  truncf .bf16 (concatenate S2x2x32x80x256 3 [⟨S2x2x32x64x256, transpose S2x2x32x64x256 [0, 1, 2, 4, 3] (shapeCast _ v shapeCasts_S2x2x8192x64_S2x2x32x256x64) transposes_S2x2x32x256x64_S2x2x32x64x256_0_1_2_4_3⟩,
    ⟨S2x2x32x16x256, broadcastInDim S2x2x32x16x256 ![3, 4] bcast_S16x256_S2x2x32x16x256_3_4 (select (cmpi .eq (iotaInDim S16x256 32 0) (broadcastInDim S16x256 ![] bcast_S_S16x256 (constantI S_ 32 0#32)))
      (broadcastInDim S16x256 ![] bcast_S_S16x256 (constant S_ .f32 0x3F800000#32)) (broadcastInDim S16x256 ![] bcast_S_S16x256 (constant S_ .f32 0x00000000#32)) : FVec Ideal S16x256 .f32)⟩] concatenates_S2x2x32x64x256_S2x2x32x16x256_S2x2x32x80x256_d3) bitsLt_bf16_f32
/-- One entry. -/
theorem hV_pt (v : FVec Ideal S2x2x8192x64 .f32) (b g : Fin 2) (n : Fin 32) (row : Fin 80) (r : Fin 256) :
    hV v (ix5 b g n row r) = if h : row.val < 64 then v (ix4 b g ⟨256 * n.val + r.val, by omega⟩ ⟨row.val, h⟩) else if row.val = 64 then 1 else 0 := by
  pointwise [hV]
  by_cases h : row.val < 64
  · rw [dif_pos h, dif_pos h]
    exact congrArg v (by congr 1; exact Fin.ext (by simp only []; omega))
  · rw [dif_neg h, dif_neg h]
    obtain ⟨row, hr⟩ := row
    have h : 64 ≤ row := not_lt.mp h
    interval_cases row <;> rfl
/-- What the host wrote. -/
theorem V38 : V m c main_v38 = hV (m ((c : Thread nD τ).loc main_arg2)) := by
  simp only [V, hostOps0, hostOps0_1, hostOps0_2, List.flatten_cons, List.flatten_nil, List.append_nil, List.cons_append, List.nil_append]
  after_results <;> rfl
end Cert.AttnIdeal.Value
end
-- ==== Proof.AttnSoft.lean ====
/- Hand-written, untrusted: the attention reference's result, entry by entry, as a quotient of sums of exponentials. -/
module
public import proofs.«01_k».proof.Proof.Gen.AttnRefIdeal.Read
public import Idealize.ShloMosaic.Lib.Pipeline.Value
public import Idealize.ShloMosaic.Lib.Pipeline.ValueKit
public import Idealize.ShloMosaic.Lib.Claim
public import proofs.«01_k».proof.Proof.AttnAcc
@[expose] public section
set_option maxRecDepth 16384
noncomputable section
open Idealize.ShloMosaic Idealize.ShloMosaic.TcCoe Idealize.SL.Sem
open scoped BigOperators
namespace Cert.AttnRefIdeal.Soft
open Cert.AttnRefIdeal Cert.AttnRefIdeal.Gen Cert.AttnRefIdeal.Read
variable (x0 : FVec Ideal S2x8x8192x64 .f32) (x1 x2 : FVec Ideal S2x2x8192x64 .f32)

/-- One score. -/
theorem v3_pt (b g : Fin 2) (j : Fin 4) (s t : Fin 8192) :
    val_main_v3 (F := Ideal) x0 x1 (ix5 b g j s t) = (∑ d : Fin 64, x0 (ix4 b ⟨4 * g.val + j.val, by omega⟩ s d) * x1 (ix4 b g t d)) * Ideal.ofBits .f32 0x3E000000#32 := by
  rw [val_main_v3_apply, val_main_v1_apply, val_main_v2_apply, val_main_cst_apply]
  simp only [val_main_v0_apply]
  show (∑ d : Fin 64, _) * Ideal.ofBits .f32 0x3E000000#32 = _
  refine congrArg (· * _) (Finset.sum_congr rfl fun d _ => ?_)
  have e1 : idx_main_v0 (lidx_main_v1 (ix5 b g j s t) d) = ix4 b ⟨4 * g.val + j.val, by omega⟩ s d := funext fun a => Fin.ext (by
    match a with
    | ⟨0, _⟩ => show ((((b.val * 2 + g.val) * 4 + j.val) * 8192 + s.val) * 64 + d.val) / 4194304 = b.val; omega
    | ⟨1, _⟩ => show ((((b.val * 2 + g.val) * 4 + j.val) * 8192 + s.val) * 64 + d.val) / 524288 % 8 = 4 * g.val + j.val; omega
    | ⟨2, _⟩ => show ((((b.val * 2 + g.val) * 4 + j.val) * 8192 + s.val) * 64 + d.val) / 64 % 8192 = s.val; omega
    | ⟨3, _⟩ => show ((((b.val * 2 + g.val) * 4 + j.val) * 8192 + s.val) * 64 + d.val) % 64 = d.val; omega)
  have e2 : ridx_main_v1 (ix5 b g j s t) d = ix4 b g t d := funext fun a => by
    match a with | ⟨0, _⟩ => rfl | ⟨1, _⟩ => rfl | ⟨2, _⟩ => rfl | ⟨3, _⟩ => rfl
  rw [e1, e2]
/-- The greatest of finitely many reals, taken by the host's reduction, is a real. -/
theorem reduce_max_real {s t u : Shape} {a : Fin s.rank} (h' : s.ReducesTo [a] t) (h : s.Reduces [a] t) (hu : 0 < u.numel) (n : ℕ) (hn : s.size a = n + 1)
    (x : FVec Ideal s .f32) (init : FVec Ideal u .f32) (hi : init (Shape.Idx.first hu) = ⊥) (hx : ∀ i, ∃ r : ℝ, x i = (r : EReal)) (j : t.Idx) :
    ∃ r : ℝ, Host.reduce FloatOps.maximumf x init h' hu j = (r : EReal) := by
  choose y hy using hx
  rw [Host.reduce_eq_fold_single FloatOps.maximumf x init h' h hu, hi]
  obtain ⟨m, hm, -⟩ := Cert.AttnIdeal.Value.fold_max_real (n := n) fun k => y (h.lift j (Fin.cast hn.symm k))
  refine ⟨m, Eq.trans ?_ hm⟩
  have e : (x ∘ h.lift j) = fun k => ((y (h.lift j k) : ℝ) : EReal) := funext fun k => hy _
  rw [e]
  generalize h.lift j = L at *
  generalize s.size a = N at *
  subst hn
  rfl
/-- The greatest score of a row is a real number. -/
theorem v6_real (hx : ∀ i, ∃ r : ℝ, val_main_v3 (F := Ideal) x0 x1 i = (r : EReal)) (i : S2x2x4x8192.Idx) :
    ∃ r : ℝ, val_main_v6 (F := Ideal) x0 x1 i = (r : EReal) := by
  rw [val_main_v6_apply, val_main_v5_apply, val_main_cst_1_apply]
  obtain ⟨r, hr⟩ : ∃ r : ℝ, val_main_v4 (F := Ideal) x0 x1 i = (r : EReal) := by
    unfold val_main_v4
    generalize val_main_v3 (F := Ideal) x0 x1 = y at hx
    exact reduce_max_real _ (by decide) _ 8191 rfl y _ Cert.AttnIdeal.Value.ninf_eq hx i
  rw [hr]
  exact ⟨r, by show max (Ideal.ofBits .f32 0xFF800000#32) (r : EReal) = _; rw [Cert.AttnIdeal.Value.ninf_eq]; exact max_eq_right bot_le⟩
/-- One weight before it is scaled. -/
theorem v10_pt (b g : Fin 2) (j : Fin 4) (s t : Fin 8192) :
    val_main_v10 (F := Ideal) x0 x1 (ix5 b g j s t) = Ideal.exp (val_main_v3 (F := Ideal) x0 x1 (ix5 b g j s t) - val_main_v6 (F := Ideal) x0 x1 (ix4 b g j s)) := by
  rw [val_main_v10_apply, val_main_v9_apply, val_main_v8_apply, val_main_v7_apply]
  have e : idx_main_v7 (idx_main_v8 (ix5 b g j s t)) = ix4 b g j s := funext fun a => by
    match a with | ⟨0, _⟩ => rfl | ⟨1, _⟩ => rfl | ⟨2, _⟩ => rfl | ⟨3, _⟩ => rfl
  rw [e]
  rfl
/-- The sum of a row's weights. -/
theorem v11_pt (b g : Fin 2) (j : Fin 4) (s : Fin 8192) :
    val_main_v11 (F := Ideal) x0 x1 (ix4 b g j s) = ∑ t, val_main_v10 (F := Ideal) x0 x1 (ix5 b g j s t) := by
  rw [val_main_v11_apply, val_main_cst_2_apply]
  have e : ∀ t, idx_main_v11 (ix4 b g j s) t = ix5 b g j s t := fun t => funext fun a => by
    match a with | ⟨0, _⟩ => rfl | ⟨1, _⟩ => rfl | ⟨2, _⟩ => rfl | ⟨3, _⟩ => rfl | ⟨4, _⟩ => rfl
  simp only [e]
  show Ideal.ofBits .f32 0x00000000#32 + _ = _
  rw [show Ideal.ofBits .f32 0x00000000#32 = 0 by simp [Ideal.ofBits, Ideal.ieee], zero_add]
/-- One entry of the result. -/
theorem v18_pt (b : Fin 2) (s : Fin 8192) (f : Fin 512) :
    val_main_v18 (F := Ideal) x0 x1 x2 (ix3 b s f) = ∑ t, Ideal.div (val_main_v10 (F := Ideal) x0 x1 (ix5 b ⟨f.val / 256, by omega⟩ ⟨f.val / 64 % 4, by omega⟩ s t)) (val_main_v11 (F := Ideal) x0 x1 (ix4 b ⟨f.val / 256, by omega⟩ ⟨f.val / 64 % 4, by omega⟩ s)) * x2 (ix4 b ⟨f.val / 256, by omega⟩ t ⟨f.val % 64, by omega⟩) := by
  rw [val_main_v18_apply, val_main_v17_apply, val_main_v16_apply]
  have e : idx_main_v16 (idx_main_v17 (ix3 b s f)) = ix5 b ⟨f.val / 256, by omega⟩ ⟨f.val / 64 % 4, by omega⟩ s ⟨f.val % 64, by omega⟩ := funext fun a => Fin.ext (by
    match a with
    | ⟨0, _⟩ => show ((b.val * 8192 + s.val) * 512 + f.val) / 4194304 = b.val; omega
    | ⟨1, _⟩ => show ((b.val * 8192 + s.val) * 512 + f.val) / 256 % 2 = f.val / 256; omega
    | ⟨2, _⟩ => show ((b.val * 8192 + s.val) * 512 + f.val) / 64 % 4 = f.val / 64 % 4; omega
    | ⟨3, _⟩ => show ((b.val * 8192 + s.val) * 512 + f.val) / 512 % 8192 = s.val; omega
    | ⟨4, _⟩ => show ((b.val * 8192 + s.val) * 512 + f.val) % 64 = f.val % 64; omega)
  rw [e, val_main_v15_apply]
  show (∑ t, _ : EReal) = _
  refine Finset.sum_congr rfl fun t _ => ?_
  have e1 : ∀ (g : Fin 2) (j : Fin 4) (d : Fin 64), lidx_main_v15 (ix5 b g j s d) t = ix5 b g j s t := fun g j d => funext fun a => by
    match a with | ⟨0, _⟩ => rfl | ⟨1, _⟩ => rfl | ⟨2, _⟩ => rfl | ⟨3, _⟩ => rfl | ⟨4, _⟩ => rfl
  have e2 : ∀ (g : Fin 2) (j : Fin 4) (d : Fin 64), ridx_main_v15 (ix5 b g j s d) t = ix4 b g t d := fun g j d => funext fun a => by
    match a with | ⟨0, _⟩ => rfl | ⟨1, _⟩ => rfl | ⟨2, _⟩ => rfl | ⟨3, _⟩ => rfl
  have e3 : ∀ (g : Fin 2) (j : Fin 4), idx_main_v12 (idx_main_v13 (ix5 b g j s t)) = ix4 b g j s := fun g j => funext fun a => by
    match a with | ⟨0, _⟩ => rfl | ⟨1, _⟩ => rfl | ⟨2, _⟩ => rfl | ⟨3, _⟩ => rfl
  rw [e1, e2, val_main_v14_apply, val_main_v13_apply, val_main_v12_apply, e3]
  rfl

/-- One eighth. -/
theorem eighth_eq : Ideal.ofBits .f32 0x3E000000#32 = ((1 / 8 : ℝ) : EReal) := by
  simp [Ideal.ofBits, Ideal.ieee, -EReal.coe_mul]; norm_num
/-- The weighted mean of `v` with weights the exponentials of `x`. -/
def softR (x : Fin 8192 → ℝ) (v : Fin 8192 → EReal) : EReal := (∑ t, v t * ((Real.exp (x t) : ℝ) : EReal)) * (((∑ t, Real.exp (x t))⁻¹ : ℝ) : EReal)
/-- The sum of the exponentials is positive. -/
theorem exps_pos (x : Fin 8192 → ℝ) : 0 < ∑ u, Real.exp (x u) := Finset.sum_pos (fun u _ => Real.exp_pos _) ⟨0, Finset.mem_univ _⟩
/-- A shift of the exponents by one number leaves a weight. -/
theorem weight_shift (x : Fin 8192 → ℝ) (M : ℝ) (t : Fin 8192) : Real.exp (x t - M) / (∑ u, Real.exp (x u - M)) = Real.exp (x t) * (∑ u, Real.exp (x u))⁻¹ := by
  have e : ∀ t, Real.exp (x t - M) = Real.exp (-M) * Real.exp (x t) := fun t => by rw [← Real.exp_add]; congr 1; ring
  simp only [e]
  rw [← Finset.mul_sum, mul_div_mul_left _ _ (Real.exp_pos (-M)).ne', div_eq_mul_inv]
/-- The weighted mean is the sum of the values times their weights. -/
theorem softR_eq (x : Fin 8192 → ℝ) (v : Fin 8192 → EReal) (M : ℝ) : ∑ t, ((Real.exp (x t - M) / (∑ u, Real.exp (x u - M)) : ℝ) : EReal) * v t = softR x v := by
  unfold softR
  rw [Cert.AttnIdeal.Value.sum_mul_real _ _ (inv_nonneg.mpr (exps_pos x).le)]
  refine Finset.sum_congr rfl fun t _ => ?_
  rw [weight_shift, mul_comm, EReal.coe_mul, mul_assoc]
/-- One score on finite inputs. -/
def xs (b g : Fin 2) (j : Fin 4) (s t : Fin 8192) : ℝ := (∑ d : Fin 64, (x0 (ix4 b ⟨4 * g.val + j.val, by omega⟩ s d)).toReal * (x1 (ix4 b g t d)).toReal) * (1 / 8)
/-- A score of the reference is that number. -/
theorem v3_real (h0 : ∀ i, ∃ r : ℝ, x0 i = (r : EReal)) (h1 : ∀ i, ∃ r : ℝ, x1 i = (r : EReal)) (b g : Fin 2) (j : Fin 4) (s t : Fin 8192) :
    val_main_v3 (F := Ideal) x0 x1 (ix5 b g j s t) = (xs x0 x1 b g j s t : EReal) := by
  rw [v3_pt, eighth_eq]
  unfold xs
  rw [EReal.coe_mul, Cert.AttnIdeal.Value.coe_sum]
  refine congrArg (· * _) (Finset.sum_congr rfl fun d _ => ?_)
  obtain ⟨p, hp⟩ := h0 (ix4 b ⟨4 * g.val + j.val, by omega⟩ s d)
  obtain ⟨r, hr⟩ := h1 (ix4 b g t d)
  rw [hp, hr]; rfl
/-- The reference's result on finite inputs. -/
theorem v18_real (h0 : ∀ i, ∃ r : ℝ, x0 i = (r : EReal)) (h1 : ∀ i, ∃ r : ℝ, x1 i = (r : EReal))
    (b : Fin 2) (s : Fin 8192) (f : Fin 512) :
    val_main_v18 (F := Ideal) x0 x1 x2 (ix3 b s f) = softR (fun t => xs x0 x1 b ⟨f.val / 256, by omega⟩ ⟨f.val / 64 % 4, by omega⟩ s t)
      (fun t => x2 (ix4 b ⟨f.val / 256, by omega⟩ t ⟨f.val % 64, by omega⟩)) := by
  rw [v18_pt]
  generalize (⟨f.val / 256, by omega⟩ : Fin 2) = g
  generalize (⟨f.val / 64 % 4, by omega⟩ : Fin 4) = j
  obtain ⟨M, hM⟩ := v6_real x0 x1 (fun i => by
    obtain ⟨b, g, j, s, t, rfl⟩ : ∃ (b g : Fin 2) (j : Fin 4) (s t : Fin 8192), i = ix5 b g j s t :=
      ⟨i 0, i 1, i 2, i 3, i 4, by funext a; fin_cases a <;> rfl⟩
    exact ⟨_, v3_real x0 x1 h0 h1 b g j s t⟩) (ix4 b g j s)
  have e10 : ∀ t, val_main_v10 (F := Ideal) x0 x1 (ix5 b g j s t) = ((Real.exp (xs x0 x1 b g j s t - M) : ℝ) : EReal) := fun t => by
    rw [v10_pt, v3_real x0 x1 h0 h1, hM, ← EReal.coe_sub]; rfl
  have e11 : val_main_v11 (F := Ideal) x0 x1 (ix4 b g j s) = ((∑ t, Real.exp (xs x0 x1 b g j s t - M) : ℝ) : EReal) := by
    rw [v11_pt, Cert.AttnIdeal.Value.coe_sum]; exact Finset.sum_congr rfl fun t _ => e10 t
  have hp : 0 < ∑ t, Real.exp (xs x0 x1 b g j s t - M) := Finset.sum_pos (fun u _ => Real.exp_pos _) ⟨0, Finset.mem_univ _⟩
  rw [← softR_eq _ _ M, e11]
  refine Finset.sum_congr rfl fun t _ => ?_
  rw [e10]
  refine congrArg (· * _) ?_
  show (if _ = (0:EReal) then _ else _) = _
  rw [if_neg (by exact_mod_cast hp.ne')]
  rw [div_eq_mul_inv, EReal.coe_mul, EReal.coe_inv]
end Cert.AttnRefIdeal.Soft
end
end
-- ==== Proof.AttnFinal.lean ====
/- Hand-written, untrusted: on finite inputs the attention kernel's output array is the reference's. -/
module
public import proofs.«01_k».proof.Proof.AttnRun
public import proofs.«01_k».proof.Proof.AttnHost
public import proofs.«01_k».proof.Proof.AttnSoft
@[expose] public section
set_option maxRecDepth 16384
noncomputable section
open Idealize.ShloMosaic Idealize.ShloMosaic.TcCoe Idealize.ShloMosaic.Tactic
open Idealize.SL.Sem
open scoped BigOperators
namespace Cert.AttnIdeal.Value
open Cert.AttnIdeal Cert.AttnIdeal.Gen

/-- A sum over the packed channels of which only one head's half counts. -/
theorem sum_half (g : Fin 2) (f : Fin 2 → Fin 64 → ℝ) :
    ∑ d : Fin 128, (if d.val / 64 = g.val then f ⟨d.val / 64, by omega⟩ ⟨d.val % 64, by omega⟩ else 0) = ∑ d : Fin 64, f g d := by
  refine (Equiv.sum_comp (finProdFinEquiv (m := 2) (n := 64)) (fun d : Fin 128 => if d.val / 64 = g.val then f ⟨d.val / 64, by omega⟩ ⟨d.val % 64, by omega⟩ else 0)).symm.trans ?_
  rw [Fintype.sum_prod_type]
  have e : ∀ (a : Fin 2) (d : Fin 64), (if (finProdFinEquiv (a, d)).val / 64 = g.val then f ⟨(finProdFinEquiv (a, d)).val / 64, by have := (finProdFinEquiv (a, d)).isLt; omega⟩ ⟨(finProdFinEquiv (a, d)).val % 64, Nat.mod_lt _ (by decide)⟩ else 0) = if a = g then f a d else 0 := fun a d => by
    have h1 : (finProdFinEquiv (a, d)).val / 64 = a.val := by simp [finProdFinEquiv] <;> omega
    have h2 : (finProdFinEquiv (a, d)).val % 64 = d.val := by simp [finProdFinEquiv] <;> omega
    simp only [h1, h2, Fin.ext_iff]
  refine (Finset.sum_congr rfl fun a _ => Finset.sum_congr rfl fun d _ => e a d).trans ?_
  rcases (by omega : g.val = 0 ∨ g.val = 1) with hg | hg
  · obtain rfl : g = 0 := Fin.ext hg
    simp [Fin.sum_univ_two]
  · obtain rfl : g = 1 := Fin.ext hg
    simp [Fin.sum_univ_two]
/-- The position of row `r` of key block `n`. -/
def pos (n : ℕ) (r : Fin 256) : Fin 8192 := ⟨(256 * n + r.val) % 8192, Nat.mod_lt _ (by decide)⟩
/-- A sum over the key blocks and their rows is the sum over the positions. -/
theorem sum_pos_eq {M : Type*} [AddCommMonoid M] (f : Fin 8192 → M) : ∑ j ∈ Finset.range 32, ∑ r : Fin 256, f (pos j r) = ∑ t, f t := by
  rw [Finset.sum_range]
  refine Eq.trans ?_ (Equiv.sum_comp (finProdFinEquiv (m := 32) (n := 256)) (fun d : Fin 8192 => f d))
  rw [Fintype.sum_prod_type]
  refine Finset.sum_congr rfl fun a _ => Finset.sum_congr rfl fun d _ => congrArg f (Fin.ext ?_)
  show (256 * a.val + d.val) % 8192 = d.val + 256 * a.val
  omega
/-- The square root of a number that is not negative. -/
theorem sqrt_real {x : ℝ} (h : 0 ≤ x) : Ideal.sqrt (x : EReal) = ((Real.sqrt x : ℝ) : EReal) := by
  show (if x < 0 then (⊥ : EReal) else _) = _
  rw [if_neg (not_lt.mpr h)]
/-- The logarithm of two. -/
theorem log2_eq : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  show (if (2 : ℝ) ≤ 0 then ⊥ else ((Real.log 2 : ℝ) : EReal)) = _
  rw [if_neg (by norm_num)]
/-- One scaled query on finite inputs. -/
theorem hQs_real (q : FVec Ideal S2x8x8192x64 .f32) (hq : ∀ i, ∃ r : ℝ, q i = (r : EReal)) (b : Fin 2) (h : Fin 8) (s : Fin 8192) (d : Fin 64) :
    hQs q (ix4 b h s d) = (((q (ix4 b h s d)).toReal * (1 / 8) / Real.log 2 : ℝ) : EReal) := by
  have hl : Real.log 2 ≠ 0 := (Real.log_pos (by norm_num)).ne'
  rw [hQs_pt, log2_eq, Cert.AttnRefIdeal.Soft.eighth_eq]
  obtain ⟨r, hr⟩ := hq (ix4 b h s d)
  rw [hr]
  show (if ((Real.log 2 : ℝ) : EReal) = 0 then _ else _ : EReal) = _
  rw [if_neg (by exact_mod_cast hl), ← EReal.coe_inv, ← EReal.coe_mul, ← EReal.coe_mul, div_eq_mul_inv]
  rfl
/-- One packed query on finite inputs. -/
theorem hQt_real (q : FVec Ideal S2x8x8192x64 .f32) (hq : ∀ i, ∃ r : ℝ, q i = (r : EReal)) (b g : Fin 2) (n : Fin 32) (d : Fin 128) (col : Fin 1024) :
    hQt q (ix5 b g n d col) = ((if d.val / 64 = g.val then (q (ix4 b ⟨4 * g.val + col.val / 256, by omega⟩ ⟨256 * n.val + col.val % 256, by omega⟩ ⟨d.val % 64, by omega⟩)).toReal * (1 / 8) / Real.log 2 else 0 : ℝ) : EReal) := by
  rw [hQt_pt]
  by_cases h : d.val / 64 = g.val
  · rw [if_pos h, if_pos h, hQt8_pt, hQs_real q hq]
  · rw [if_neg h, if_neg h]; simp [Ideal.ofBits, Ideal.ieee]

variable (m : (ℓ : Loc nD τ sig) → Buf (Elt Ideal) ℓ)
variable {m}
variable (q : FVec Ideal S2x8x8192x64 .f32) (k v : FVec Ideal S2x2x8192x64 .f32)
  (hq : ∀ i, ∃ r : ℝ, q i = (r : EReal)) (hk : ∀ i, ∃ r : ℝ, k i = (r : EReal))
  (c : Dev nD) (eq : m ((c : Thread nD τ).loc main_arg0) = q) (ek : m ((c : Thread nD τ).loc main_arg1) = k) (ev : m ((c : Thread nD τ).loc main_arg2) = v)
  (t : Fin cfg0.N) (b g : Fin 2) (hb : b.val = t.val / 2) (hg : g.val = t.val % 2)
include eq ek ev hb hg

/-- The queries' block holds real numbers. -/
theorem g0 (hq : ∀ i, ∃ r : ℝ, q i = (r : EReal)) (n : Fin 32) (d : Fin 128) (col : Fin 1024) : iblk m c 0 t (ix5 0 0 n d col) = ((if d.val / 64 = g.val then (q (ix4 b ⟨4 * g.val + col.val / 256, by omega⟩ ⟨256 * n.val + col.val % 256, by omega⟩ ⟨d.val % 64, by omega⟩)).toReal * (1 / 8) / Real.log 2 else 0 : ℝ) : EReal) := by
  rw [blk0 m c t n d col b g hb hg, V23, eq]; exact hQt_real q hq b g n d col
/-- The queries' norms are real numbers. -/
theorem g1 (hq : ∀ i, ∃ r : ℝ, q i = (r : EReal)) (n : Fin 32) (col : Fin 1024) : ∃ r : ℝ, iblk m c 1 t (ix5 0 0 n 0 col) = (r : EReal) := by
  rw [blk1 m c t n col b g hb hg, V12, eq]
  have e := hQn_pt q b g n col
  simp only [hQt8_pt, hQs_real q hq, ← EReal.coe_mul] at e
  rw [← coe_sum] at e
  exact ⟨_, e.trans (sqrt_real (Finset.sum_nonneg fun d _ => mul_self_nonneg _))⟩
/-- The keys' block. -/
theorem g2 (s : Fin 8192) (d : Fin 128) : iblk m c 2 t (ix3 0 s d) = k (ix4 b ⟨d.val / 64, by omega⟩ s ⟨d.val % 64, by omega⟩) := by
  rw [blk2 m c t s d b g hb hg, V39, ek]; exact hK_pt k b s d
/-- The keys' squared norms are real and not negative. -/
theorem g3 (hk : ∀ i, ∃ r : ℝ, k i = (r : EReal)) (s : Fin 8192) : ∃ r : ℝ, 0 ≤ r ∧ iblk m c 3 t (ix4 0 0 0 s) = (r : EReal) := by
  rw [blk3 m c t s b g hb hg, V28, ek]
  choose y hy using hk
  refine ⟨∑ d : Fin 64, y (ix4 b g s d) * y (ix4 b g s d), Finset.sum_nonneg fun d _ => mul_self_nonneg _, (hKn_pt k b g s).trans ?_⟩
  rw [coe_sum]
  exact Finset.sum_congr rfl fun d _ => by rw [hy, EReal.coe_mul]
/-- The values' block. -/
theorem g4 (n : Fin 32) (row : Fin 80) (r : Fin 256) : iblk m c 4 t (ix5 0 0 n row r) = if h : row.val < 64 then v (ix4 b g ⟨256 * n.val + r.val, by omega⟩ ⟨row.val, h⟩) else if row.val = 64 then 1 else 0 := by
  rw [blk4 m c t n row r b g hb hg, V38, ev]; exact hV_pt v b g n row r

include hq hk
/-- The blocks are as the body needs them. -/
theorem good : Good m c t where
  h0 := fun i => by
    obtain ⟨n, d, col, rfl⟩ : ∃ (n : Fin 32) (d : Fin 128) (col : Fin 1024), i = ix5 0 0 n d col := ⟨i 2, i 3, i 4, by
      funext a; fin_cases a
      · exact Fin.ext (by have := (i 0).isLt; simpa using this)
      · exact Fin.ext (by have := (i 1).isLt; simpa using this)
      all_goals rfl⟩
    exact ⟨_, g0 q k v c eq ek ev t b g hb hg hq n d col⟩
  h1 := fun i => by
    obtain ⟨n, col, rfl⟩ : ∃ (n : Fin 32) (col : Fin 1024), i = ix5 0 0 n 0 col := ⟨i 2, i 4, by
      funext a; fin_cases a
      · exact Fin.ext (by have := (i 0).isLt; simpa using this)
      · exact Fin.ext (by have := (i 1).isLt; simpa using this)
      · rfl
      · exact Fin.ext (by have := (i 3).isLt; simpa using this)
      · rfl⟩
    exact g1 q k v c eq ek ev t b g hb hg hq n col
  h2 := fun i => by
    obtain ⟨s, d, rfl⟩ : ∃ (s : Fin 8192) (d : Fin 128), i = ix3 0 s d := ⟨i 1, i 2, by
      funext a; fin_cases a
      · exact Fin.ext (by have := (i 0).isLt; simpa using this)
      all_goals rfl⟩
    obtain ⟨r, hr⟩ := hk (ix4 b ⟨d.val / 64, by omega⟩ s ⟨d.val % 64, by omega⟩)
    exact ⟨r, (g2 q k v c eq ek ev t b g hb hg s d).trans hr⟩
  h3 := fun i => by
    obtain ⟨s, rfl⟩ : ∃ (s : Fin 8192), i = ix4 0 0 0 s := ⟨i 3, by
      funext a; fin_cases a
      · exact Fin.ext (by have := (i 0).isLt; simpa using this)
      · exact Fin.ext (by have := (i 1).isLt; simpa using this)
      · exact Fin.ext (by have := (i 2).isLt; simpa using this)
      · rfl⟩
    exact g3 q k v c eq ek ev t b g hb hg hk s
  hone := fun n r => by
    have e := g4 q k v c eq ek ev t b g hb hg ⟨n % 32, Nat.mod_lt _ (by decide)⟩ 64 r
    rw [dif_neg (by decide), if_pos (by decide)] at e
    exact e

set_option maxHeartbeats 2000000 in
/-- The output's block, entry by entry, is the reference's weighted mean. -/
theorem out_soft (s : Fin 8192) (e : Fin 256) (f : Fin 512) (hf : f.val = t.val % 2 * 256 + e.val) :
    outO m c t (ix3 0 s e) = Cert.AttnRefIdeal.Soft.softR (fun t => Cert.AttnRefIdeal.Soft.xs q k b ⟨f.val / 256, by omega⟩ ⟨f.val / 64 % 4, by omega⟩ s t)
      (fun t => v (ix4 b ⟨f.val / 256, by omega⟩ t ⟨f.val % 64, by omega⟩)) := by
  have hg : f.val / 256 = t.val % 2 := by have := e.isLt; omega
  have hs := s.isLt
  have he := e.isLt
  have hlog : Real.log 2 ≠ 0 := (Real.log_pos (by norm_num)).ne'
  have hst : ∀ (j : ℕ) (r : Fin 256), (2 : ℝ) ^ (st (KR (iblk m c 2 t)) (QR (iblk m c 0 t) (s.val / 256)) j r ⟨256 * (e.val / 64) + s.val % 256, by omega⟩ - (fun _ => (0 : ℝ)) (⟨256 * (e.val / 64) + s.val % 256, by omega⟩ : Fin 1024))
      = Real.exp (Cert.AttnRefIdeal.Soft.xs q k b ⟨f.val / 256, by omega⟩ ⟨f.val / 64 % 4, by omega⟩ s (pos j r)) := fun j r => by
    rw [Real.rpow_def_of_pos (by norm_num)]
    congr 1
    have hd : ∀ d : Fin 128, KR (iblk m c 2 t) j r d * QR (iblk m c 0 t) (s.val / 256) d ⟨256 * (e.val / 64) + s.val % 256, by omega⟩
        = if d.val / 64 = f.val / 256 then (fun (a : Fin 2) (d : Fin 64) => (k (ix4 b a (pos j r) d)).toReal * ((q (ix4 b ⟨4 * (f.val / 256) + f.val / 64 % 4, by omega⟩ s d)).toReal * (1 / 8) / Real.log 2)) ⟨d.val / 64, by omega⟩ ⟨d.val % 64, by omega⟩ else 0 := fun d => by
      unfold KR QR
      rw [g0 q k v c eq ek ev t b ⟨f.val / 256, by omega⟩ hb hg hq, g2 q k v c eq ek ev t b ⟨f.val / 256, by omega⟩ hb hg]
      rw [EReal.toReal_coe]
      have e1 : (⟨4 * (f.val / 256) + (256 * (e.val / 64) + s.val % 256) / 256, by omega⟩ : Fin 8) = ⟨4 * (f.val / 256) + f.val / 64 % 4, by omega⟩ := Fin.ext (by simp only []; omega)
      have e2 : (⟨256 * (s.val / 256 % 32) + (256 * (e.val / 64) + s.val % 256) % 256, by omega⟩ : Fin 8192) = s := Fin.ext (by simp only []; omega)
      by_cases h : d.val / 64 = f.val / 256
      · rw [if_pos h, if_pos h]
        simp only [e1, e2]
        rfl
      · rw [if_neg h, if_neg h, mul_zero]
    have hh := (Finset.sum_congr rfl fun d _ => hd d).trans (sum_half ⟨f.val / 256, by omega⟩ (fun (a : Fin 2) (d : Fin 64) => (k (ix4 b a (pos j r) d)).toReal * ((q (ix4 b ⟨4 * (f.val / 256) + f.val / 64 % 4, by omega⟩ s d)).toReal * (1 / 8) / Real.log 2)))
    unfold st
    refine (congrArg (fun x : ℝ => Real.log 2 * (x - 0)) hh).trans ?_
    unfold Cert.AttnRefIdeal.Soft.xs
    rw [sub_zero, Finset.mul_sum, Finset.sum_mul]
    refine Finset.sum_congr rfl fun d _ => ?_
    field_simp
  have hw : ∀ (j : ℕ) (r : Fin 256), VR (iblk m c 4 t) j ⟨e.val % 64, by omega⟩ r = v (ix4 b ⟨f.val / 256, by omega⟩ (pos j r) ⟨f.val % 64, by omega⟩) := fun j r => by
    unfold VR
    rw [g4 q k v c eq ek ev t b ⟨f.val / 256, by omega⟩ hb hg]
    rw [dif_pos (show e.val % 64 < 64 from Nat.mod_lt _ (by decide))]
    have e1 : (⟨256 * (j % 32) + r.val, by omega⟩ : Fin 8192) = pos j r := Fin.ext (by show 256 * (j % 32) + r.val = (256 * j + r.val) % 8192; omega)
    have e2 : (⟨e.val % 64, by omega⟩ : Fin 64) = ⟨f.val % 64, by omega⟩ := Fin.ext (by show e.val % 64 = f.val % 64; omega)
    simp only [e1, e2]
  show outR (KR (iblk m c 2 t)) (VR (iblk m c 4 t)) (QR (iblk m c 0 t) (s.val / 256)) ⟨s.val % 256, _⟩ ⟨e.val, _⟩ = _
  unfold outR acc den Cert.AttnRefIdeal.Soft.softR
  refine congrArg₂ (· * ·) ?_ (congrArg (fun x : ℝ => ((x⁻¹ : ℝ) : EReal)) ?_)
  · refine Eq.trans ?_ (sum_pos_eq fun t => v (ix4 b ⟨f.val / 256, by omega⟩ t ⟨f.val % 64, by omega⟩) * ((Real.exp (Cert.AttnRefIdeal.Soft.xs q k b ⟨f.val / 256, by omega⟩ ⟨f.val / 64 % 4, by omega⟩ s t) : ℝ) : EReal))
    exact Finset.sum_congr rfl fun j _ => Finset.sum_congr rfl fun r _ => congrArg₂ (· * ·) (hw j r) (congrArg (fun x : ℝ => (x : EReal)) (hst j r))
  · refine Eq.trans ?_ (sum_pos_eq fun t => Real.exp (Cert.AttnRefIdeal.Soft.xs q k b ⟨f.val / 256, by omega⟩ ⟨f.val / 64 % 4, by omega⟩ s t))
    exact Finset.sum_congr rfl fun j _ => Finset.sum_congr rfl fun r _ => hst j r
omit hb hg t b g
/-- The output's array is the reference's. -/
theorem final : (datsO m (outO m) 0 c).arrAt 5 cfg0.N = Cert.AttnRefIdeal.Read.val_main_v18 (F := Ideal) q k v := by
  refine (datsO m (outO m) 0 c).arrAt_eq_of_covers 5 _ (by decide +kernel) fun t hf y => ?_
  blk_simp; rw [afterO_5]
  obtain ⟨s, e, rfl⟩ : ∃ (s : Fin 8192) (e : Fin 256), y = ix3 0 s e := ⟨y 1, y 2, by
    funext i; fin_cases i
    · exact Fin.ext (by have := (y 0).isLt; simpa using this)
    · rfl
    · rfl⟩
  have ht : t.val < 4 := t.isLt
  have he := e.isLt
  obtain ⟨b, hb⟩ : ∃ b : Fin 2, b.val = t.val / 2 := ⟨⟨t.val / 2, by omega⟩, rfl⟩
  obtain ⟨g, hg⟩ : ∃ g : Fin 2, g.val = t.val % 2 := ⟨⟨t.val % 2, by omega⟩, rfl⟩
  obtain ⟨f, hf⟩ : ∃ f : Fin 512, f.val = t.val % 2 * 256 + e.val := ⟨⟨t.val % 2 * 256 + e.val, by omega⟩, rfl⟩
  rw [out5 t s e b f hb hf]
  exact (out_soft q k v hq hk c eq ek ev t b g hb hg s e f hf).trans (Cert.AttnRefIdeal.Soft.v18_real q k v hq hk b s f).symm

end Cert.AttnIdeal.Value
end
-- ==== Proof.FfnMath.lean ====
/- Hand-written, untrusted: the feed-forward layer as plain sums over extended reals, and the reference read as those sums. -/
module

public import proofs.«01_k».proof.Proof.Gen.FfnRefIdeal.Read
public import Idealize.ShloMosaic.Lib.Pipeline.ValueKit

@[expose] public section

set_option maxRecDepth 16384

noncomputable section

open Idealize.ShloMosaic
open scoped BigOperators

namespace Cert.FfnMath

open Cert.FfnRefIdeal Cert.FfnRefIdeal.Read

/-- The length of a row, as the programs' f32 literal reads at `Ideal`. -/
abbrev rowLen : EReal := Ideal.ofBits .f32 0x44800000#32

/-- The term added below the square root. -/
abbrev eps : EReal := Ideal.ofBits .f32 0x358637BD#32

/-- One entry of a row divided by its root mean square and scaled by a weight. -/
def norm (x g : Fin 1024 → EReal) (d : Fin 1024) : EReal :=
  x d * Ideal.rsqrt (Ideal.div (∑ k, x k * x k) rowLen + eps) * g d

/-- The gate's activation, in the reference's spelling. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

variable (a0 : FVec Ideal S2x8192x1024 .f32) (a1 : FVec Ideal S1x1024 .f32) (a2 : FVec Ideal S1x1024x5632 .f32)
  (a3 : FVec Ideal S1x3x5632 .f32) (a4 : FVec Ideal S1x5632 .f32) (a5 : FVec Ideal S1x2816x1024 .f32) (a6 : FVec Ideal S1x1024 .f32)

/-- The normalised input. -/
def hid (b : Fin 2) (s : Fin 8192) (d : Fin 1024) : EReal :=
  norm (fun k => a0 (ix3 b s k)) (fun k => a1 (ix2 0 k)) d

/-- The up projection. -/
def up (b : Fin 2) (s : Fin 8192) (f : Fin 5632) : EReal :=
  ∑ d, hid a0 a1 b s d * a2 (ix3 0 d f)

/-- The up projection one position earlier, zero before the first. -/
def upPrev (b : Fin 2) (s : Fin 8192) (f : Fin 5632) : EReal :=
  if h : 1 ≤ s.val then up a0 a1 a2 b ⟨s.val - 1, by omega⟩ f else 0

/-- The up projection one position later, zero after the last. -/
def upNext (b : Fin 2) (s : Fin 8192) (f : Fin 5632) : EReal :=
  if h : s.val + 1 < 8192 then up a0 a1 a2 b ⟨s.val + 1, h⟩ f else 0

/-- The depthwise convolution of width three with its bias. -/
def conv (b : Fin 2) (s : Fin 8192) (f : Fin 5632) : EReal :=
  upPrev a0 a1 a2 b s f * a3 (ix3 0 0 f) + up a0 a1 a2 b s f * a3 (ix3 0 1 f) + upNext a0 a1 a2 b s f * a3 (ix3 0 2 f)
    + a4 (ix2 0 f)

/-- The gated activation. -/
def act (b : Fin 2) (s : Fin 8192) (f : Fin 2816) : EReal :=
  gelu (conv a0 a1 a2 a3 a4 b s ⟨f.val, by omega⟩) * conv a0 a1 a2 a3 a4 b s ⟨2816 + f.val, by omega⟩

/-- The down projection. -/
def down (b : Fin 2) (s : Fin 8192) (n : Fin 1024) : EReal :=
  ∑ f, act a0 a1 a2 a3 a4 b s f * a5 (ix3 0 f n)

/-- The layer's result. -/
def out (b : Fin 2) (s : Fin 8192) (n : Fin 1024) : EReal :=
  a0 (ix3 b s n) + norm (down a0 a1 a2 a3 a4 a5 b s) (fun k => a6 (ix2 0 k)) n

/-- The reference's normalised input. -/
theorem hid_eq (b : Fin 2) (s : Fin 8192) (d : Fin 1024) :
    val_main_v13 (F := Ideal) a0 a1 (ix3 b s d) = hid a0 a1 b s d := by
  unfold hid norm
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's up projection. -/
theorem up_eq (b : Fin 2) (s : Fin 8192) (f : Fin 5632) :
    val_main_v15 (F := Ideal) a0 a1 a2 (ix3 b s f) = up a0 a1 a2 b s f := by
  unfold up
  simp only [← hid_eq]
  pointwise [val_main_v15, val_main_v14]

/-- The reference's padded up projection. -/
theorem pad_eq (b : Fin 2) (s : Fin 8194) (f : Fin 5632) :
    val_main_v16 (F := Ideal) a0 a1 a2 (ix3 b s f)
      = if h : 1 ≤ s.val ∧ s.val - 1 < 8192 then up a0 a1 a2 b ⟨s.val - 1, h.2⟩ f else 0 := by
  simp only [← up_eq]
  pointwise [val_main_v16]
  congr 1
  funext _
  pointwise [val_main_call0_v0, val_main_c]
  show (((0#32).toInt : ℝ) : EReal) = 0
  simp

/-- The reference's row one position earlier. -/
theorem prev_eq (b : Fin 2) (s : Fin 8192) (f : Fin 5632) :
    val_main_v17 (F := Ideal) a0 a1 a2 (ix3 b s f) = upPrev a0 a1 a2 b s f := by
  unfold upPrev
  pointwise [val_main_v17]
  rw [pad_eq]
  by_cases h : 1 ≤ s.val
  · rw [dif_pos ⟨by simpa using h, by simp; omega⟩, dif_pos h]
  · rw [dif_neg (fun hh => h (by simpa using hh.1)), dif_neg h]

/-- The reference's row one position later. -/
theorem next_eq (b : Fin 2) (s : Fin 8192) (f : Fin 5632) :
    val_main_v29 (F := Ideal) a0 a1 a2 (ix3 b s f) = upNext a0 a1 a2 b s f := by
  unfold upNext
  pointwise [val_main_v29]
  rw [pad_eq]
  by_cases h : s.val + 1 < 8192
  · rw [dif_pos ⟨by simp; omega, by simp; omega⟩, dif_pos h]; congr 1; apply Fin.ext; simp; omega
  · rw [dif_neg (fun hh => h (by have := hh.2; simp at this; omega)), dif_neg h]

/-- The reference's convolution. -/
theorem conv_eq (b : Fin 2) (s : Fin 8192) (f : Fin 5632) :
    val_main_v39 (F := Ideal) a0 a1 a2 a3 a4 (ix3 b s f) = conv a0 a1 a2 a3 a4 b s f := by
  unfold conv
  rw [← prev_eq, ← next_eq, ← up_eq]
  pointwise [val_main_v39, val_main_v38, val_main_v37, val_main_v36, val_main_v35, val_main_v34, val_main_v33, val_main_v32,
    val_main_v31, val_main_v30, val_main_v28, val_main_v27, val_main_v26, val_main_v25, val_main_v24, val_main_v23,
    val_main_v22, val_main_v21, val_main_v20, val_main_v19, val_main_v18]

/-- The reference's gated activation. -/
theorem act_eq (b : Fin 2) (s : Fin 8192) (f : Fin 2816) :
    val_main_v55 (F := Ideal) a0 a1 a2 a3 a4 (ix3 b s f) = act a0 a1 a2 a3 a4 b s f := by
  unfold act gelu
  rw [← conv_eq, ← conv_eq]
  pointwise [val_main_v55, val_main_v54, val_main_v53, val_main_v52, val_main_v51, val_main_v50, val_main_v49, val_main_v48,
    val_main_v47, val_main_v46, val_main_v45, val_main_v44, val_main_v43, val_main_v42, val_main_v41, val_main_v40,
    val_main_cst_2, val_main_cst_3, val_main_cst_4, val_main_cst_5]

/-- The reference's down projection. -/
theorem down_eq (b : Fin 2) (s : Fin 8192) (n : Fin 1024) :
    val_main_v57 (F := Ideal) a0 a1 a2 a3 a4 a5 (ix3 b s n) = down a0 a1 a2 a3 a4 a5 b s n := by
  unfold down
  simp only [← act_eq]
  pointwise [val_main_v57, val_main_v56]

/-- The reference's result. -/
theorem out_eq (b : Fin 2) (s : Fin 8192) (n : Fin 1024) :
    val_main_v72 (F := Ideal) a0 a1 a2 a3 a4 a5 a6 (ix3 b s n) = out a0 a1 a2 a3 a4 a5 a6 b s n := by
  unfold out norm
  simp only [← down_eq]
  pointwise [val_main_v72, val_main_v71, val_main_v70, val_main_v69, val_main_v68, val_main_v67, val_main_v66, val_main_v65,
    val_main_v64, val_main_v63, val_main_v62, val_main_v61, val_main_v60, val_main_v59, val_main_v58, val_main_cst_6,
    val_main_cst_7, val_main_cst_8]

end Cert.FfnMath

end
-- ==== Proof.FfnBlock.lean ====
/- Hand-written, untrusted: what one grid point of the feed-forward kernel leaves in its output block, entry by entry. -/
module
public import proofs.«01_k».proof.Proof.Gen.FfnIdeal.Value
public import proofs.«01_k».proof.Proof.FfnMath
public import Idealize.ShloMosaic.Lib.Pipeline.ValueKit
public import Idealize.ShloMosaic.Lib.Claim
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
open scoped BigOperators
namespace Cert.FfnIdeal.Value
open Cert.FfnIdeal Cert.FfnIdeal.Gen

/-- The cubic coefficient, as the program names it. -/
abbrev K3 : EReal := Named.named (F := Ideal) (φ := .f32) κ "gelu_c3" 0x3D122279#32

/-- The activation in the kernel's spelling. -/
def kgelu (z : EReal) : EReal :=
  Ideal.ofBits .f32 0x3F000000#32 * z + Ideal.ofBits .f32 0x3F000000#32 * z
    * Ideal.tanh (z * (Ideal.ofBits .f32 0x3F4C422A#32 + K3 * (z * z)))

/-- One entry of the convolution from the 272 normalised rows. -/
def convAt (hb : FVec Ideal S272x1024 .bf16) (W : FVec Ideal S1024x5632 .bf16) (D : FVec Ideal S3x5632 .f32) (B : FVec Ideal S1x5632 .f32)
    (r : Fin 256) (f : Fin 5632) : EReal :=
  D (ix2 0 f) * ∑ x, hb (ix2 ⟨r.val + 7, by omega⟩ x) * W (ix2 x f)
    + D (ix2 1 f) * ∑ x, hb (ix2 ⟨r.val + 8, by omega⟩ x) * W (ix2 x f)
    + D (ix2 2 f) * ∑ x, hb (ix2 ⟨r.val + 9, by omega⟩ x) * W (ix2 x f)
    + B (ix2 0 f)

/-- The gated activation of the block. -/
def actAt (hb : FVec Ideal S272x1024 .bf16) (W : FVec Ideal S1024x5632 .bf16) (D : FVec Ideal S3x5632 .f32) (B : FVec Ideal S1x5632 .f32) :
    FVec Ideal S256x2816 .bf16 := fun y =>
  kgelu (convAt hb W D B ⟨(y 0).val, (y 0).isLt⟩ ⟨(y 1).val, Nat.lt_trans (y 1).isLt (by decide)⟩)
    * convAt hb W D B ⟨(y 0).val, (y 0).isLt⟩ ⟨2816 + (y 1).val, Nat.add_lt_add_left (show (y 1).val < 2816 from (y 1).isLt) 2816⟩

/-- One chunk of 256 channels of the gated activation. -/
def chunk (hb : FVec Ideal S272x1024 .bf16) (w1 w2 : FVec Ideal S1024x256 .bf16) (d1 d2 : FVec Ideal S3x256 .f32) (b1 b2 : FVec Ideal S1x256 .f32) :
    FVec Ideal S256x256 .bf16 :=
  k0_pay12 (F := Ideal) (k0_pay11 (F := Ideal) (k0_pay9 (F := Ideal) (k0_pay8 (F := Ideal) hb w1 w2)) d1 d2) b1 b2

/-- One entry of the convolution from one chunk's weights. -/
def cv (hb : FVec Ideal S272x1024 .bf16) (w : FVec Ideal S1024x256 .bf16) (d : FVec Ideal S3x256 .f32) (b : FVec Ideal S1x256 .f32)
    (r f : Fin 256) : EReal :=
  d (ix2 0 f) * ∑ x, hb (ix2 ⟨r.val + 7, by omega⟩ x) * w (ix2 x f)
    + d (ix2 1 f) * ∑ x, hb (ix2 ⟨r.val + 8, by omega⟩ x) * w (ix2 x f)
    + d (ix2 2 f) * ∑ x, hb (ix2 ⟨r.val + 9, by omega⟩ x) * w (ix2 x f)
    + b (ix2 0 f)

/-- One entry of a chunk. -/
theorem chunk_point (hb : FVec Ideal S272x1024 .bf16) (w1 w2 : FVec Ideal S1024x256 .bf16) (d1 d2 : FVec Ideal S3x256 .f32)
    (b1 b2 : FVec Ideal S1x256 .f32) (r f : Fin 256) :
    chunk hb w1 w2 d1 d2 b1 b2 (ix2 r f) = kgelu (cv hb w1 d1 b1 r f) * cv hb w2 d2 b2 r f := by
  have e7 : (⟨(8 + r.val + 272 - 1) % 272, Nat.mod_lt _ (by decide)⟩ : Fin 272) = ⟨r.val + 7, by omega⟩ := Fin.ext (by simp only []; omega)
  have e8 : (⟨8 + r.val, by omega⟩ : Fin 272) = ⟨r.val + 8, by omega⟩ := Fin.ext (by simp only []; omega)
  have e9 : (⟨(8 + r.val + 272 - 271) % 272, Nat.mod_lt _ (by decide)⟩ : Fin 272) = ⟨r.val + 9, by omega⟩ := Fin.ext (by simp only []; omega)
  pointwise [chunk, k0_pay12, k0_pay11, k0_pay9, k0_pay8]
  simp only [e7, e8, e9]
  rfl

/-- A chunk's convolution is the whole convolution at its channel. -/
theorem cv_at (hb : FVec Ideal S272x1024 .bf16) (W : FVec Ideal S1024x5632 .bf16) (D : FVec Ideal S3x5632 .f32) (B : FVec Ideal S1x5632 .f32)
    (o : ℕ) (ho : o + 256 ≤ 5632) (h1 h3 h5) (r f : Fin 256) (r' : Fin 256) (f' : Fin 5632) (hr : r'.val = r.val) (hf : f'.val = o + f.val) :
    cv hb (View.ld (Val := Elt Ideal) (e' := .bf16) W (Rect.unit (s := S1024x5632) ![0, o] ![1024, 256] h1))
      (View.ld (Val := Elt Ideal) (e' := .f32) D (Rect.unit (s := S3x5632) ![0, o] ![3, 256] h3))
      (View.ld (Val := Elt Ideal) (e' := .f32) B (Rect.unit (s := S1x5632) ![0, o] ![1, 256] h5)) r f
      = convAt hb W D B r' f' := by
  obtain rfl : r' = r := Fin.ext hr
  obtain ⟨f', hf'⟩ := f'
  obtain rfl : f' = o + f.val := hf
  have eW : ∀ x : Fin 1024, (Rect.unit (s := S1024x5632) ![0, o] ![1024, 256] h1).idx (ix2 x f) = ix2 x ⟨o + f.val, by omega⟩ := fun x => by
    funext i; fin_cases i <;> apply Fin.ext <;> simp [Rect.unit, LoadRect.idx]
  have eD : ∀ x : Fin 3, (Rect.unit (s := S3x5632) ![0, o] ![3, 256] h3).idx (ix2 x f) = ix2 x ⟨o + f.val, by omega⟩ := fun x => by
    funext i; fin_cases i <;> apply Fin.ext <;> simp [Rect.unit, LoadRect.idx]
  have eB : ∀ x : Fin 1, (Rect.unit (s := S1x5632) ![0, o] ![1, 256] h5).idx (ix2 x f) = ix2 x ⟨o + f.val, by omega⟩ := fun x => by
    funext i; fin_cases i <;> apply Fin.ext <;> simp [Rect.unit, LoadRect.idx]
  unfold cv convAt View.ld
  simp only [eW, eD, eB]

/-- The chunk at 256 `o` is the block of the gated activation there. -/
theorem chunk_at (hb : FVec Ideal S272x1024 .bf16) (W : FVec Ideal S1024x5632 .bf16) (D : FVec Ideal S3x5632 .f32) (B : FVec Ideal S1x5632 .f32)
    (o o' : ℕ) (ho : o + 256 ≤ 2816) (ho' : o' = 2816 + o) (h1 h2 h3 h4 h5 h6 h7)
    (x : S256x256.Idx) :
    chunk hb (View.ld (Val := Elt Ideal) (e' := .bf16) W (Rect.unit (s := S1024x5632) ![0, o] ![1024, 256] h1)) (View.ld (Val := Elt Ideal) (e' := .bf16) W (Rect.unit (s := S1024x5632) ![0, o'] ![1024, 256] h2))
      (View.ld (Val := Elt Ideal) (e' := .f32) D (Rect.unit (s := S3x5632) ![0, o] ![3, 256] h3)) (View.ld (Val := Elt Ideal) (e' := .f32) D (Rect.unit (s := S3x5632) ![0, o'] ![3, 256] h4))
      (View.ld (Val := Elt Ideal) (e' := .f32) B (Rect.unit (s := S1x5632) ![0, o] ![1, 256] h5)) (View.ld (Val := Elt Ideal) (e' := .f32) B (Rect.unit (s := S1x5632) ![0, o'] ![1, 256] h6)) x
      = actAt hb W D B ((Rect.unit (s := S256x2816) ![0, o] ![256, 256] h7).emb x) := by
  subst ho'
  obtain ⟨r, f, rfl⟩ : ∃ (r f : Fin 256), x = ix2 r f := ⟨x 0, x 1, by funext i; fin_cases i <;> rfl⟩
  have i0 : (((Rect.unit (s := S256x2816) ![0, o] ![256, 256] h7).emb (ix2 r f)) 0).val = r.val := by simp [Rect.unit, Rect.emb]
  have i1 : (((Rect.unit (s := S256x2816) ![0, o] ![256, 256] h7).emb (ix2 r f)) 1).val = o + f.val := by simp [Rect.unit, Rect.emb]
  rw [chunk_point]
  exact congrArg₂ (fun a b => kgelu a * b)
    (cv_at hb W D B o (by omega) h1 h3 h5 r f _ _ i0 i1)
    (cv_at hb W D B (2816 + o) (by omega) h2 h4 h6 r f _ _ i0 (by
      show 2816 + (((Rect.unit (s := S256x2816) ![0, o] ![256, 256] h7).emb (ix2 r f)) 1).val = 2816 + o + f.val
      rw [i1]; omega))

end Cert.FfnIdeal.Value
end
-- ==== Proof.FfnRows.lean ====
/- Hand-written, untrusted: the 272 normalised rows one grid point of the feed-forward kernel reads, and its output row. -/
module
public import proofs.«01_k».proof.Proof.FfnBlock
@[expose] public section
set_option maxRecDepth 16384
noncomputable section
open Idealize.ShloMosaic Idealize.ShloMosaic.TcCoe Idealize.SL.Sem
open Idealize.ShloMosaic.Pipeline (Dat)
open scoped BigOperators
namespace Cert.FfnIdeal.Value
open Cert.FfnIdeal Cert.FfnIdeal.Gen Cert.FfnMath

/-- The comparison with zero, as the 32 grid coordinates take it. -/
theorem sgt_zero : ∀ n : Fin 32, Scalar.cmpi .sgt (BitVec.ofNat 32 n.val) 0#32 = if 0 < n.val then 1#1 else 0#1 := by decide +kernel

/-- The comparison with the last block, as the 32 grid coordinates take it. -/
theorem slt_last : ∀ n : Fin 32, Scalar.cmpi .slt (BitVec.ofNat 32 n.val) 31#32 = if n.val < 31 then 1#1 else 0#1 := by decide +kernel

/-- The eight rows before the block. -/
theorem pay3_at (i : grid0.Coords) (g : Vec Ideal S1x1024 .f32) (v : Vec Ideal S1x8x1024 .f32) (r : Fin 8) (d : Fin 1024) :
    k0_pay3 (F := Ideal) i g v (ix2 r d) = if 0 < (i 1).val then norm (fun k => v (ix3 0 r k)) (fun k => g (ix2 0 k)) d else 0 := by
  have e := sgt_zero ⟨(i 1).val, (i 1).isLt⟩
  have z : FloatOps.sitofp (F := Ideal) .f32 0#32 = (0 : EReal) := by
    show (((0#32).toInt : ℝ) : EReal) = 0; simp
  pointwise [k0_pay3, k0_pay2]
  refine (congrArg (fun b => Scalar.select b _ _) e).trans ?_
  split <;> rfl

/-- The block's own rows. -/
theorem pay5_at (g : Vec Ideal S1x1024 .f32) (v : Vec Ideal S1x256x1024 .f32) (r : Fin 256) (d : Fin 1024) :
    k0_pay5 (F := Ideal) (k0_pay4 (F := Ideal) g v) (ix2 r d) = norm (fun k => v (ix3 0 r k)) (fun k => g (ix2 0 k)) d := by
  pointwise [k0_pay5, k0_pay4, k0_pay2]
  rfl

/-- The eight rows after the block. -/
theorem pay6_at (n : Fin 32) (g : Vec Ideal S1x1024 .f32) (v : Vec Ideal S1x8x1024 .f32) (r : Fin 8) (d : Fin 1024) :
    k0_pay6 (F := Ideal) (BitVec.ofNat 32 n.val) (k0_pay2 (F := Ideal) g) v (ix2 r d)
      = if n.val < 31 then norm (fun k => v (ix3 0 r k)) (fun k => g (ix2 0 k)) d else 0 := by
  have e := slt_last n
  pointwise [k0_pay6, k0_pay2]
  rw [e]
  split <;> rfl

/-- The output row: the block's row plus the normalised down projection. -/
theorem pay1_at (x : FVec Ideal S256x1024 .f32) (a : Vec Ideal S256x2816 .bf16) (w : Vec Ideal S2816x1024 .bf16) (g : Vec Ideal S1x1024 .f32)
    (r : Fin 256) (n : Fin 1024) :
    k0_pay1 (F := Ideal) x a w g (ix3 0 r n)
      = x (ix2 r n) + norm (fun k => ∑ f, a (ix2 r f) * w (ix2 f k)) (fun k => g (ix2 0 k)) n := by
  pointwise [k0_pay1]
  rfl
/-- The 272 normalised rows around a block: the eight before it, its own, the eight after it. -/
def rows (i : grid0.Coords) (x0 : Vec Ideal S1x256x1024 .f32) (x1 x2 : Vec Ideal S1x8x1024 .f32) (g : Vec Ideal S1x1024 .f32) (r : Fin 272) (d : Fin 1024) : EReal :=
  if h1 : r.val < 8 then
    if 0 < (i 1).val then norm (fun k => x1 (ix3 0 ⟨r.val, h1⟩ k)) (fun k => g (ix2 0 k)) d else 0
  else if h2 : r.val < 264 then norm (fun k => x0 (ix3 0 ⟨r.val - 8, by omega⟩ k)) (fun k => g (ix2 0 k)) d
  else if (i 1).val < 31 then norm (fun k => x2 (ix3 0 ⟨r.val - 264, by omega⟩ k)) (fun k => g (ix2 0 k)) d else 0

/-- The three stores that fill the row buffer leave those rows. -/
theorem rows_at (i : grid0.Coords) (x0 : Vec Ideal S1x256x1024 .f32) (x1 x2 : Vec Ideal S1x8x1024 .f32) (g : Vec Ideal S1x1024 .f32)
    (h1 h2 h3) (r : Fin 272) (d : Fin 1024) :
    View.canon (Val := Elt Ideal) (s := S272x1024) (e := .f32)
      [⟨Rect.unit (s := S272x1024) ![264, 0] ![8, 1024] h1, k0_pay6 (F := Ideal) (BitVec.ofNat 32 (i 1).val) (k0_pay2 (F := Ideal) g) x2⟩,
       ⟨Rect.unit (s := S272x1024) ![8, 0] ![256, 1024] h2, k0_pay5 (F := Ideal) (k0_pay4 (F := Ideal) g x0)⟩,
       ⟨Rect.unit (s := S272x1024) ![0, 0] ![8, 1024] h3, k0_pay3 (F := Ideal) i g x1⟩] (ix2 r d)
      = rows i x0 x1 x2 g r d := by
  refine View.canon_append_of_piecesOf (Val := Elt Ideal) (s := S272x1024) (e := .f32)
    (fun y : S272x1024.Idx => rows i x0 x1 x2 g ⟨(y 0).val, (y 0).isLt⟩ ⟨(y 1).val, (y 1).isLt⟩) []
      [⟨Rect.unit (s := S272x1024) ![264, 0] ![8, 1024] h1, k0_pay6 (F := Ideal) (BitVec.ofNat 32 (i 1).val) (k0_pay2 (F := Ideal) g) x2⟩,
       ⟨Rect.unit (s := S272x1024) ![8, 0] ![256, 1024] h2, k0_pay5 (F := Ideal) (k0_pay4 (F := Ideal) g x0)⟩,
       ⟨Rect.unit (s := S272x1024) ![0, 0] ![8, 1024] h3, k0_pay3 (F := Ideal) i g x1⟩]
    ⟨fun x => ?_, fun x => ?_, fun x => ?_, trivial⟩ (ix2 r d) ?_
  · obtain ⟨a, b, rfl⟩ : ∃ (a : Fin 8) (b : Fin 1024), x = ix2 a b := ⟨x 0, x 1, by funext i; fin_cases i <;> rfl⟩
    refine (pay6_at ⟨(i 1).val, (i 1).isLt⟩ g x2 a b).trans ?_
    have e0 : (((Rect.unit (s := S272x1024) ![264, 0] ![8, 1024] h1).emb (ix2 a b)) 0).val = 264 + a.val := by simp [Rect.unit, Rect.emb]
    have e1 : (((Rect.unit (s := S272x1024) ![264, 0] ![8, 1024] h1).emb (ix2 a b)) 1).val = b.val := by simp [Rect.unit, Rect.emb]
    unfold rows
    simp only [e0, e1]
    rw [dif_neg (by omega), dif_neg (by omega)]
    simp only [Nat.add_sub_cancel_left]
  · obtain ⟨a, b, rfl⟩ : ∃ (a : Fin 256) (b : Fin 1024), x = ix2 a b := ⟨x 0, x 1, by funext i; fin_cases i <;> rfl⟩
    refine (pay5_at g x0 a b).trans ?_
    have e0 : (((Rect.unit (s := S272x1024) ![8, 0] ![256, 1024] h2).emb (ix2 a b)) 0).val = 8 + a.val := by simp [Rect.unit, Rect.emb]
    have e1 : (((Rect.unit (s := S272x1024) ![8, 0] ![256, 1024] h2).emb (ix2 a b)) 1).val = b.val := by simp [Rect.unit, Rect.emb]
    unfold rows
    simp only [e0, e1]
    rw [dif_neg (by omega), dif_pos (by omega)]
    simp only [Nat.add_sub_cancel_left]
  · obtain ⟨a, b, rfl⟩ : ∃ (a : Fin 8) (b : Fin 1024), x = ix2 a b := ⟨x 0, x 1, by funext i; fin_cases i <;> rfl⟩
    refine (pay3_at i g x1 a b).trans ?_
    have e0 : (((Rect.unit (s := S272x1024) ![0, 0] ![8, 1024] h3).emb (ix2 a b)) 0).val = a.val := by simp [Rect.unit, Rect.emb]
    have e1 : (((Rect.unit (s := S272x1024) ![0, 0] ![8, 1024] h3).emb (ix2 a b)) 1).val = b.val := by simp [Rect.unit, Rect.emb]
    unfold rows
    simp only [e0, e1]
    rw [dif_pos a.isLt]
  · have hr := r.isLt
    have hd := d.isLt
    by_cases c1 : r.val < 8
    · refine ⟨_, List.mem_cons_of_mem _ (List.mem_cons_of_mem _ List.mem_cons_self), (Rect.mem_set_unit (s := S272x1024) (off := ![0, 0]) (size := ![8, 1024]) (inb := h3)).mpr fun a => ?_⟩
      fin_cases a <;> simp <;> omega
    · by_cases c2 : r.val < 264
      · refine ⟨_, List.mem_cons_of_mem _ List.mem_cons_self, (Rect.mem_set_unit (s := S272x1024) (off := ![8, 0]) (size := ![256, 1024]) (inb := h2)).mpr fun a => ?_⟩
        fin_cases a <;> simp <;> omega
      · refine ⟨_, List.mem_cons_self, (Rect.mem_set_unit (s := S272x1024) (off := ![264, 0]) (size := ![8, 1024]) (inb := h1)).mpr fun a => ?_⟩
        fin_cases a <;> simp <;> omega

end Cert.FfnIdeal.Value
end
-- ==== Proof.FfnReal.lean ====
/- Hand-written, untrusted: on finite inputs every quantity before the gate is a real number, and the two spellings of the activation agree there. -/
module
public import proofs.«01_k».proof.Proof.FfnRows
public import Idealize.ShloMosaic.Lib.IdealHost
public import Idealize.ShloMosaic.Lib.ReduceAll
public import proofs.«01_k».proof.Proof.Gen.Pre_ffn_finite
@[expose] public section
set_option maxRecDepth 16384
noncomputable section
open Idealize.ShloMosaic
open scoped BigOperators
namespace Cert.FfnMath
open Cert.FfnRefIdeal

/-- A value that is a real number. -/
def Fin' (x : EReal) : Prop := ∃ r : ℝ, x = (r : EReal)

/-- A sum of two finite values is finite. -/
theorem fin_add {x y : EReal} (hx : Fin' x) (hy : Fin' y) : Fin' (x + y) := by
  obtain ⟨a, rfl⟩ := hx; obtain ⟨b, rfl⟩ := hy; exact ⟨a + b, by push_cast; rfl⟩

/-- A product of two finite values is finite. -/
theorem fin_mul {x y : EReal} (hx : Fin' x) (hy : Fin' y) : Fin' (x * y) := by
  obtain ⟨a, rfl⟩ := hx; obtain ⟨b, rfl⟩ := hy; exact ⟨a * b, by push_cast; rfl⟩

/-- Zero is finite. -/
theorem fin_zero : Fin' 0 := ⟨0, rfl⟩

/-- A finite sum of finite values is finite. -/
theorem fin_sum {n : ℕ} (f : Fin n → EReal) (h : ∀ i, Fin' (f i)) : Fin' (∑ i, f i) :=
  Finset.sum_induction f Fin' (fun _ _ => fin_add) fin_zero fun i _ => h i

/-- A value below infinity in absolute value is a real number. -/
theorem fin_of_abs {x : EReal} (h : max x (-x) < ⊤) : Fin' x := by
  induction x with
  | bot => simp at h
  | top => simp at h
  | coe r => exact ⟨r, rfl⟩

/-- The program's row length is 1024. -/
theorem rowLen_eq : rowLen = ((1024 : ℝ) : EReal) := by
  simp [Ideal.ofBits, Ideal.ieee, -EReal.coe_mul]; norm_num

/-- The term below the root is a positive number. -/
theorem eps_eq : eps = ((8796093 / 8796093022208 : ℝ) : EReal) := by
  simp [Ideal.ofBits, Ideal.ieee, -EReal.coe_mul]; norm_num

/-- One half. -/
theorem half_eq : Ideal.ofBits .f32 0x3F000000#32 = ((1 / 2 : ℝ) : EReal) := by
  simp [Ideal.ofBits, Ideal.ieee, -EReal.coe_mul]; norm_num

/-- One. -/
theorem one_eq : Ideal.ofBits .f32 0x3F800000#32 = ((1 : ℝ) : EReal) := by
  simp [Ideal.ofBits, Ideal.ieee, -EReal.coe_mul]; norm_num

/-- The activation's linear coefficient, as the literal stands. -/
theorem c_eq : Ideal.ofBits .f32 0x3F4C422A#32 = ((13386282 / 16777216 : ℝ) : EReal) := by
  simp [Ideal.ofBits, Ideal.ieee, -EReal.coe_mul]; norm_num

/-- The activation's cubic coefficient, as the literal stands. -/
theorem k_eq : Ideal.ofBits .f32 0x3D372713#32 = ((12003091 / 268435456 : ℝ) : EReal) := by
  simp [Ideal.ofBits, Ideal.ieee, -EReal.coe_mul]; norm_num

/-- A sum of real numbers, read in the extended reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A finite row's normalised entries are real numbers. -/
theorem norm_fin (x g : Fin 1024 → EReal) (hx : ∀ k, Fin' (x k)) (hg : ∀ k, Fin' (g k)) (d : Fin 1024) : Fin' (norm x g d) := by
  choose y hy using hx
  obtain ⟨e, he, hE⟩ : ∃ e : ℝ, 0 < e ∧ eps = (e : EReal) := ⟨_, by norm_num, eps_eq⟩
  have hs : ∑ k, x k * x k = ((∑ k, y k * y k : ℝ) : EReal) := by
    simp only [hy, ← EReal.coe_mul]
    exact (coe_sum _).symm
  have h0 : 0 ≤ ∑ k, y k * y k := Finset.sum_nonneg fun k _ => mul_self_nonneg _
  have hd : Ideal.div (∑ k, x k * x k) rowLen = (((∑ k, y k * y k) * (1024 : ℝ)⁻¹ : ℝ) : EReal) := by
    rw [hs, rowLen_eq, Ideal.div, if_neg (by exact_mod_cast (by norm_num : (1024 : ℝ) ≠ 0)), EReal.coe_mul, EReal.coe_inv]
  have hp : 0 < (∑ k, y k * y k) * (1024 : ℝ)⁻¹ + e := by positivity
  have hr : Ideal.rsqrt (Ideal.div (∑ k, x k * x k) rowLen + eps) = (((Real.sqrt ((∑ k, y k * y k) * (1024 : ℝ)⁻¹ + e))⁻¹ : ℝ) : EReal) := by
    rw [hd, hE, ← EReal.coe_add]
    show (if _ < (0 : ℝ) then ⊥ else if _ = (0 : ℝ) then ⊤ else _) = _
    rw [if_neg (not_lt.mpr hp.le), if_neg hp.ne']
  unfold norm
  exact fin_mul (fin_mul ⟨_, hy d⟩ ⟨_, hr⟩) (hg d)

variable (a0 : FVec Ideal S2x8192x1024 .f32) (a1 : FVec Ideal S1x1024 .f32) (a2 : FVec Ideal S1x1024x5632 .f32)
  (a3 : FVec Ideal S1x3x5632 .f32) (a4 : FVec Ideal S1x5632 .f32)

/-- With finite inputs the convolution is real. -/
theorem conv_fin (h0 : ∀ i, Fin' (a0 i)) (h1 : ∀ i, Fin' (a1 i)) (h2 : ∀ i, Fin' (a2 i)) (h3 : ∀ i, Fin' (a3 i)) (h4 : ∀ i, Fin' (a4 i))
    (b : Fin 2) (s : Fin 8192) (f : Fin 5632) : Fin' (conv a0 a1 a2 a3 a4 b s f) := by
  have hu : ∀ s f, Fin' (up a0 a1 a2 b s f) := fun s f =>
    fin_sum _ fun d => fin_mul (norm_fin _ _ (fun _ => h0 _) (fun _ => h1 _) d) (h2 _)
  have hp : Fin' (upPrev a0 a1 a2 b s f) := by unfold upPrev; split; exacts [hu _ _, fin_zero]
  have hn : Fin' (upNext a0 a1 a2 b s f) := by unfold upNext; split; exacts [hu _ _, fin_zero]
  exact fin_add (fin_add (fin_add (fin_mul hp (h3 _)) (fin_mul (hu _ _) (h3 _))) (fin_mul hn (h3 _))) (h4 _)

/-- The conjunction of two bits is one only when both are. -/
theorem and_one : ∀ x y : BitVec 1, IntOp.andi x y = 1#1 → x = 1#1 ∧ y = 1#1 := by decide

/-- The program's infinity. -/
theorem inf_eq : Ideal.ofBits .f32 0x7F800000#32 = ⊤ := by simp [Ideal.ofBits, Ideal.ieee]

/-- The comparison against infinity that came out true. -/
theorem fin_of_cmp {x : EReal} (h : Ideal.cmp .olt (max x (-x)) (Ideal.ofBits .f32 0x7F800000#32) = 1#1) : Fin' x := by
  rw [inf_eq] at h
  apply fin_of_abs
  by_contra hn
  rw [Ideal.cmp, decide_eq_false hn] at h
  exact absurd h (by decide)

/-- The precondition, entry by entry. -/
theorem pre_fin (a5 : FVec Ideal S1x2816x1024 .f32) (a6 : FVec Ideal S1x1024 .f32)
    (h : Cert.Pre_ffn_finite.fn (F := Ideal) a0 a1 a2 a3 a4 a5 a6 = fun _ => 1#1) :
    (∀ i, Fin' (a0 i)) ∧ (∀ i, Fin' (a1 i)) ∧ (∀ i, Fin' (a2 i)) ∧ (∀ i, Fin' (a3 i)) ∧ (∀ i, Fin' (a4 i)) := by
  have h := congrFun h (fun i => i.elim0)
  have sub : Subsingleton Cert.Pre_ffn_finite.S_.Idx := ⟨fun x y => funext fun i => i.elim0⟩
  obtain ⟨h, h4⟩ := and_one _ _ h
  obtain ⟨h, h3⟩ := and_one _ _ h
  obtain ⟨h, h2⟩ := and_one _ _ h
  obtain ⟨h0, h1⟩ := and_one _ _ h
  exact ⟨fun i => fin_of_cmp (Host.reduce_andi_all _ _ _ _ _ h0 i), fun i => fin_of_cmp (Host.reduce_andi_all _ _ _ _ _ h1 i),
    fun i => fin_of_cmp (Host.reduce_andi_all _ _ _ _ _ h2 i), fun i => fin_of_cmp (Host.reduce_andi_all _ _ _ _ _ h3 i),
    fun i => fin_of_cmp (Host.reduce_andi_all _ _ _ _ _ h4 i)⟩

end Cert.FfnMath

namespace Cert.FfnIdeal.Value
open Cert.FfnIdeal Cert.FfnMath

/-- The named coefficient is the product of the reference's two literals. -/
theorem K3_eq : K3 = ((13386282 / 16777216 * (12003091 / 268435456) : ℝ) : EReal) := by
  show ((80338380498831 / 2251799813685248 : ℝ) : EReal) = _
  norm_num

/-- The kernel's activation is the reference's on real numbers. -/
theorem kgelu_eq (z : EReal) (hz : Fin' z) : kgelu z = gelu z := by
  obtain ⟨r, rfl⟩ := hz
  unfold kgelu gelu
  rw [K3_eq, half_eq, c_eq, k_eq, one_eq]
  simp only [← EReal.coe_mul, ← EReal.coe_add]
  show ((_ : ℝ) : EReal) + (_ : ℝ) * ((Real.tanh _ : ℝ) : EReal) = (_ : ℝ) * ((_ : ℝ) * (((1 : ℝ) : EReal) + ((Real.tanh _ : ℝ) : EReal)))
  simp only [← EReal.coe_mul, ← EReal.coe_add]
  congr 1
  rw [show r * (13386282 / 16777216 + 13386282 / 16777216 * (12003091 / 268435456) * (r * r))
    = 13386282 / 16777216 * (r + 12003091 / 268435456 * (r * r * r)) from by ring]
  ring

end Cert.FfnIdeal.Value
end
-- ==== Proof.AttnClaims.lean ====
/- Hand-written, untrusted: the claims about the attention kernel. -/
module
public import proofs.«01_k».proof.Defs
public import proofs.«01_k».proof.Proof.AttnFrame
public import proofs.«01_k».proof.Proof.AttnFinal
public import proofs.«01_k».proof.Proof.Gen.AttnRefIdeal.Run
public import proofs.«01_k».proof.Proof.Gen.Pre_qk_finite
public import proofs.«01_k».proof.Proof.FfnReal
public import Idealize.ShloMosaic.Adequacy
public import Idealize.ShloMosaic.Init
@[expose] public section
set_option maxRecDepth 16384
noncomputable section
open Idealize.ShloMosaic Idealize.ShloMosaic.TcCoe Idealize.SL.Sem

namespace Cert.Proof.AttnClaims
open Cert.FfnMath

/-- The kernel ends with its arguments unchanged and its semaphores at zero. -/
theorem frame_p : Cert.quiescent_Attn := fun m ρ _ => Cert.Attn.Gen.frame m ρ
/-- So does the ideal kernel. -/
theorem frame_pi : Cert.quiescent_AttnIdeal := fun m ρ _ => Cert.AttnIdeal.Gen.frame m ρ
/-- The same where the inputs are finite. -/
theorem frame_pi_pre : Cert.quiescent_AttnIdeal_pre_qk_finite := fun m ρ _ => Cert.AttnIdeal.Gen.frame m ρ
/-- The reference ends with its arguments unchanged. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- The same where the inputs are finite. -/
theorem frame_ri_pre : Cert.quiescent_AttnRefIdeal_pre_qk_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- Nothing of the kernel was rewritten. -/
theorem preserves : Cert.preserves_Attn_AttnIdeal := trivial

/-- The precondition, entry by entry. -/
theorem pre_fin (a0 : FVec Ideal Cert.Pre_qk_finite.S2x8x8192x64 .f32) (a1 a2 : FVec Ideal Cert.Pre_qk_finite.S2x2x8192x64 .f32)
    (h : Cert.Pre_qk_finite.fn (F := Ideal) a0 a1 a2 = fun _ => 1#1) :
    (∀ i, Fin' (a0 i)) ∧ (∀ i, Fin' (a1 i)) := by
  have h := congrFun h (fun i => i.elim0)
  have sub : Subsingleton Cert.Pre_qk_finite.S_.Idx := ⟨fun x y => funext fun i => i.elim0⟩
  obtain ⟨h0, h1⟩ := and_one _ _ h
  exact ⟨fun i => fin_of_cmp (Host.reduce_andi_all _ _ _ _ _ h0 i), fun i => fin_of_cmp (Host.reduce_andi_all _ _ _ _ _ h1 i)⟩

/-- On finite inputs the ideal kernel and the ideal reference end with the same result. -/
theorem algebraic : Cert.algebraic_AttnIdeal_AttnRefIdeal_pre_qk_finite := by
  intro m ρ m' ρ' hpre hagree
  have hf := fun c => pre_fin _ _ _ (hpre c)
  refine ⟨_, Cert.AttnIdeal.Value.run_blocks m ρ (fun c t => ?_), ?_⟩
  · have ht : t.val < 4 := t.isLt
    exact Cert.AttnIdeal.Value.good _ _ _ (hf c).1 (hf c).2 c rfl rfl rfl t ⟨t.val / 2, by omega⟩ ⟨t.val % 2, by omega⟩ rfl rfl
  refine (θ_run Cert.AttnRefIdeal.defs _ _).mono (fun _ h c => ⟨(h c).1.trans ?_, (h c).2⟩)
    (Cert.AttnRefIdeal.Value.run (F := Ideal) m' ρ')
  refine Eq.trans ?_ (Cert.AttnIdeal.Value.final _ _ _ (hf c).1 (hf c).2 c rfl rfl rfl).symm
  rw [Cert.AttnRefIdeal.Read.val_main_v18_eq, (hagree c).1, (hagree c).2.1, (hagree c).2.2]

end Cert.Proof.AttnClaims
end
-- ==== Proof.FfnReads.lean ====
/- Hand-written, untrusted: what the feed-forward kernel's blocks hold of its arguments, and its grid point by point. -/
module
public import proofs.«01_k».proof.Proof.FfnRows
@[expose] public section
set_option maxRecDepth 16384
noncomputable section
open Idealize.ShloMosaic Idealize.ShloMosaic.TcCoe Idealize.SL.Sem
open Idealize.ShloMosaic.Pipeline (Dat)
open scoped BigOperators
namespace Cert.FfnIdeal.Value
open Cert.FfnIdeal Cert.FfnIdeal.Gen Cert.FfnMath

variable (m : (ℓ : Loc nD τ sig) → Buf (Elt Ideal) ℓ) (c : Dev nD)

/-- Every window's block index at every grid point. -/
theorem idx : ∀ t : Fin cfg0.N, win0_0.index t = ![t.val / 32, t.val % 32, 0]
    ∧ win0_1.index t = ![t.val / 32, t.val % 32 * 32 - 1, 0]
    ∧ win0_2.index t = ![t.val / 32, min (t.val % 32 * 32 + 32) 1023, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val / 32, t.val % 32, 0]
    ∧ (grid0.coords t 1).val = t.val % 32 :=
  (by decide +kernel : ∀ t : Fin grid0.N, _)

/-- The block of the input. -/
theorem blk0 (t : Fin cfg0.N) (r : Fin 256) (k : Fin 1024) (b : Fin 2) (s : Fin 8192) (hb : b.val = t.val / 32) (hs : s.val = t.val % 32 * 256 + r.val) :
    iblk m c 0 t (ix3 0 r k) = m ((c : Thread nD τ).loc main_arg0) (ix3 b s k) := by
  obtain ⟨e0, e1, e2, e3, e4, e5, e6, e7, e8, e9, e10⟩ := idx t
  blk_ext! [iblk, V, e0, hb, hs]

/-- The eight rows before it. -/
theorem blk1 (t : Fin cfg0.N) (r : Fin 8) (k : Fin 1024) (b : Fin 2) (s : Fin 8192) (hb : b.val = t.val / 32) (hs : s.val = (t.val % 32 * 32 - 1) * 8 + r.val) :
    iblk m c 1 t (ix3 0 r k) = m ((c : Thread nD τ).loc main_arg0) (ix3 b s k) := by
  obtain ⟨e0, e1, e2, e3, e4, e5, e6, e7, e8, e9, e10⟩ := idx t
  blk_ext! [iblk, V, e1, hb, hs]

/-- The eight rows after it. -/
theorem blk2 (t : Fin cfg0.N) (r : Fin 8) (k : Fin 1024) (b : Fin 2) (s : Fin 8192) (hb : b.val = t.val / 32) (hs : s.val = min (t.val % 32 * 32 + 32) 1023 * 8 + r.val) :
    iblk m c 2 t (ix3 0 r k) = m ((c : Thread nD τ).loc main_arg0) (ix3 b s k) := by
  obtain ⟨e0, e1, e2, e3, e4, e5, e6, e7, e8, e9, e10⟩ := idx t
  blk_ext! [iblk, V, e2, hb, hs]

/-- The first gain, read from its block, is the argument. -/
theorem blk3 (t : Fin cfg0.N) (k : Fin 1024) : iblk m c 3 t (ix2 0 k) = m ((c : Thread nD τ).loc main_arg1) (ix2 0 k) := by
  obtain ⟨e0, e1, e2, e3, e4, e5, e6, e7, e8, e9, e10⟩ := idx t
  blk_ext! [iblk, V, e3]

/-- The up weights, read from their block, are the argument. -/
theorem blk4 (t : Fin cfg0.N) (d : Fin 1024) (f : Fin 5632) : iblk m c 4 t (ix2 d f) = m ((c : Thread nD τ).loc main_arg2) (ix3 0 d f) := by
  obtain ⟨e0, e1, e2, e3, e4, e5, e6, e7, e8, e9, e10⟩ := idx t
  blk_ext! [iblk, V, e4]

/-- The taps of the convolution, read from their block, are the argument. -/
theorem blk5 (t : Fin cfg0.N) (d : Fin 3) (f : Fin 5632) : iblk m c 5 t (ix2 d f) = m ((c : Thread nD τ).loc main_arg3) (ix3 0 d f) := by
  obtain ⟨e0, e1, e2, e3, e4, e5, e6, e7, e8, e9, e10⟩ := idx t
  blk_ext! [iblk, V, e5]

/-- The bias of the convolution, read from its block, is the argument. -/
theorem blk6 (t : Fin cfg0.N) (f : Fin 5632) : iblk m c 6 t (ix2 0 f) = m ((c : Thread nD τ).loc main_arg4) (ix2 0 f) := by
  obtain ⟨e0, e1, e2, e3, e4, e5, e6, e7, e8, e9, e10⟩ := idx t
  blk_ext! [iblk, V, e6]

/-- The down weights, read from their block, are the argument. -/
theorem blk7 (t : Fin cfg0.N) (f : Fin 2816) (k : Fin 1024) : iblk m c 7 t (ix2 f k) = m ((c : Thread nD τ).loc main_arg5) (ix3 0 f k) := by
  obtain ⟨e0, e1, e2, e3, e4, e5, e6, e7, e8, e9, e10⟩ := idx t
  blk_ext! [iblk, V, e7]

/-- The last gain, read from its block, is the argument. -/
theorem blk8 (t : Fin cfg0.N) (k : Fin 1024) : iblk m c 8 t (ix2 0 k) = m ((c : Thread nD τ).loc main_arg6) (ix2 0 k) := by
  obtain ⟨e0, e1, e2, e3, e4, e5, e6, e7, e8, e9, e10⟩ := idx t
  blk_ext! [iblk, V, e8]

/-- Where the output block's entry lies. -/
theorem out9 (t : Fin cfg0.N) (r : Fin 256) (k : Fin 1024) (b : Fin 2) (s : Fin 8192) (hb : b.val = t.val / 32) (hs : s.val = t.val % 32 * 256 + r.val) :
    ((View.whole main_v11).slice (win0_9.rect t)).emb (ix3 0 r k) = ix3 b s k := by
  obtain ⟨e0, e1, e2, e3, e4, e5, e6, e7, e8, e9, e10⟩ := idx t
  blk_ext! [e9, hb, hs]

end Cert.FfnIdeal.Value
end
-- ==== Proof.FfnValue.lean ====
/- Hand-written, untrusted: the feed-forward kernel's output array is the layer's result. -/
module
public import proofs.«01_k».proof.Proof.FfnReads
public import proofs.«01_k».proof.Proof.FfnReal
@[expose] public section
set_option maxRecDepth 16384
noncomputable section
open Idealize.ShloMosaic Idealize.ShloMosaic.TcCoe Idealize.SL.Sem
open Idealize.ShloMosaic.Pipeline (Dat)
open scoped BigOperators
namespace Cert.FfnIdeal.Value
open Cert.FfnIdeal Cert.FfnIdeal.Gen Cert.FfnMath

variable (m : (ℓ : Loc nD τ sig) → Buf (Elt Ideal) ℓ)

/-- The row buffer, rounded: the rows themselves over the extended reals. -/
def rowsVec (i : grid0.Coords) (x0 : Vec Ideal S1x256x1024 .f32) (x1 x2 : Vec Ideal S1x8x1024 .f32) (g : Vec Ideal S1x1024 .f32) :
    FVec Ideal S272x1024 .bf16 := fun y => rows i x0 x1 x2 g ⟨(y 0).val, (y 0).isLt⟩ ⟨(y 1).val, (y 1).isLt⟩

/-- What the body reads back of its row buffer. -/
theorem rowsVec_eq (i : grid0.Coords) (x0 : Vec Ideal S1x256x1024 .f32) (x1 x2 : Vec Ideal S1x8x1024 .f32) (g : Vec Ideal S1x1024 .f32)
    (h1 h2 h3 h4) :
    k0_pay7 (F := Ideal) (fun j => View.canon (Val := Elt Ideal) (s := S272x1024) (e := .f32)
      [⟨Rect.unit (s := S272x1024) ![264, 0] ![8, 1024] h1, k0_pay6 (F := Ideal) (BitVec.ofNat 32 (i 1).val) (k0_pay2 (F := Ideal) g) x2⟩,
       ⟨Rect.unit (s := S272x1024) ![8, 0] ![256, 1024] h2, k0_pay5 (F := Ideal) (k0_pay4 (F := Ideal) g x0)⟩,
       ⟨Rect.unit (s := S272x1024) ![0, 0] ![8, 1024] h3, k0_pay3 (F := Ideal) i g x1⟩]
        ((Rect.unit (s := S272x1024) ![0, 0] ![272, 1024] h4).toLoadRect.idx j)) = rowsVec i x0 x1 x2 g := by
  funext y
  obtain ⟨a, b, rfl⟩ : ∃ (a : Fin 272) (b : Fin 1024), y = ix2 a b := ⟨y 0, y 1, by funext i; fin_cases i <;> rfl⟩
  have e : (Rect.unit (s := S272x1024) ![0, 0] ![272, 1024] h4).toLoadRect.idx (ix2 a b) = ix2 a b := by
    funext i; fin_cases i <;> apply Fin.ext <;> simp [Rect.unit, LoadRect.idx]
  pointwise [k0_pay7]
  refine Eq.trans ?_ (rows_at i x0 x1 x2 g h1 h2 h3 a b)
  first | rw [e] | skip
  rfl

/-- Stores that are blocks of the gated activation leave it in the activation buffer. -/
theorem act_read (hb : FVec Ideal S272x1024 .bf16) (W : FVec Ideal S1024x5632 .bf16) (D : FVec Ideal S3x5632 .f32) (B : FVec Ideal S1x5632 .f32)
    (L : List (View.Piece (Elt Ideal) S256x2816 .bf16)) (hL : View.PiecesOf (Val := Elt Ideal) (s := S256x2816) (e := .bf16) (actAt hb W D B) L)
    (hc : ∀ y : S256x2816.Idx, ∃ p ∈ L, y ∈ p.1.set) (h) (r : Fin 256) (f : Fin 2816) :
    View.canon (Val := Elt Ideal) L ((Rect.unit (s := S256x2816) ![0, 0] ![256, 2816] h).toLoadRect.idx (ix2 r f)) = actAt hb W D B (ix2 r f) := by
  have e : (Rect.unit (s := S256x2816) ![0, 0] ![256, 2816] h).toLoadRect.idx (ix2 r f) = ix2 r f := by
    funext i; fin_cases i <;> apply Fin.ext <;> simp [Rect.unit, LoadRect.idx]
  rw [e]
  exact View.canon_append_of_piecesOf (Val := Elt Ideal) (s := S256x2816) (e := .bf16) (actAt hb W D B) [] L hL _ (hc _) |>.symm ▸ by rw [List.append_nil]

/-- One entry of the output block. -/
theorem out_at (X : FVec Ideal S256x1024 .f32) (hb : FVec Ideal S272x1024 .bf16) (W : FVec Ideal S1024x5632 .bf16) (D : FVec Ideal S3x5632 .f32)
    (B : FVec Ideal S1x5632 .f32) (w : Vec Ideal S2816x1024 .bf16) (g : Vec Ideal S1x1024 .f32)
    (L : List (View.Piece (Elt Ideal) S256x2816 .bf16)) (hL : View.PiecesOf (Val := Elt Ideal) (s := S256x2816) (e := .bf16) (actAt hb W D B) L)
    (hc : ∀ y : S256x2816.Idx, ∃ p ∈ L, y ∈ p.1.set) (h) (r : Fin 256) (n : Fin 1024) :
    k0_pay1 (F := Ideal) X (fun j => View.canon (Val := Elt Ideal) L ((Rect.unit (s := S256x2816) ![0, 0] ![256, 2816] h).toLoadRect.idx j)) w g (ix3 0 r n)
      = X (ix2 r n) + norm (fun k => ∑ f, actAt hb W D B (ix2 r f) * w (ix2 f k)) (fun k => g (ix2 0 k)) n := by
  refine (pay1_at X _ w g r n).trans ?_
  simp only [act_read hb W D B L hL hc h]

/-- The chunk row of block `t` that stands for a position of the sequence. -/
theorem rows_mid (c : Dev nD) (t : Fin cfg0.N) (r : Fin 256) (b : Fin 2) (s : Fin 8192) (hb : b.val = t.val / 32) (hs : s.val = t.val % 32 * 256 + r.val)
    (j : Fin 272) (s' : Fin 8192) (hj : s'.val + 8 = t.val % 32 * 256 + j.val) (h7 : 7 ≤ j.val) (h9 : j.val < 265) (d : Fin 1024) :
    rows (grid0.coords t) (iblk m c 0 t) (iblk m c 1 t) (iblk m c 2 t) (iblk m c 3 t) j d
      = hid (m ((c : Thread nD τ).loc main_arg0)) (m ((c : Thread nD τ).loc main_arg1)) b s' d := by
  obtain ⟨e0, e1, e2, e3, e4, e5, e6, e7, e8, e9, e10⟩ := idx t
  have hs' := s'.isLt
  have hq : t.val % 32 < 32 := Nat.mod_lt _ (by decide)
  unfold rows hid
  simp only [blk3]
  split
  · rw [if_pos (by omega)]
    simp only [fun h k => blk1 m c t ⟨j.val, h⟩ k b s' hb (by simp only []; omega)]
  · split
    · simp only [fun h k => blk0 m c t ⟨j.val - 8, h⟩ k b s' hb (by simp only []; omega)]
    · rw [if_pos (by omega)]
      simp only [fun h k => blk2 m c t ⟨j.val - 264, h⟩ k b s' hb (by simp only []; omega)]

/-- The block's convolution is the layer's. -/
theorem conv_block (c : Dev nD) (t : Fin cfg0.N) (r : Fin 256) (b : Fin 2) (s : Fin 8192) (hb : b.val = t.val / 32) (hs : s.val = t.val % 32 * 256 + r.val)
    (f : Fin 5632) :
    convAt (rowsVec (grid0.coords t) (iblk m c 0 t) (iblk m c 1 t) (iblk m c 2 t) (iblk m c 3 t)) (iblk m c 4 t) (iblk m c 5 t) (iblk m c 6 t) r f
      = conv (m ((c : Thread nD τ).loc main_arg0)) (m ((c : Thread nD τ).loc main_arg1)) (m ((c : Thread nD τ).loc main_arg2))
        (m ((c : Thread nD τ).loc main_arg3)) (m ((c : Thread nD τ).loc main_arg4)) b s f := by
  obtain ⟨e0, e1, e2, e3, e4, e5, e6, e7, e8, e9, e10⟩ := idx t
  have hsl := s.isLt
  have hq : t.val % 32 < 32 := Nat.mod_lt _ (by decide)
  have hr := r.isLt
  have mid : ∀ (j : Fin 272) (s' : Fin 8192), s'.val + 8 = t.val % 32 * 256 + j.val → 7 ≤ j.val → j.val < 265 →
      ∑ x, rowsVec (grid0.coords t) (iblk m c 0 t) (iblk m c 1 t) (iblk m c 2 t) (iblk m c 3 t) (ix2 j x) * iblk m c 4 t (ix2 x f)
        = up (m ((c : Thread nD τ).loc main_arg0)) (m ((c : Thread nD τ).loc main_arg1)) (m ((c : Thread nD τ).loc main_arg2)) b s' f := by
    intro j s' hj h7 h9
    refine Finset.sum_congr rfl fun x _ => ?_
    rw [blk4]
    exact congrArg (· * _) (rows_mid m c t r b s hb hs j s' hj h7 h9 x)
  have zer : ∀ (j : Fin 272), (∀ d, rows (grid0.coords t) (iblk m c 0 t) (iblk m c 1 t) (iblk m c 2 t) (iblk m c 3 t) j d = 0) →
      ∑ x, rowsVec (grid0.coords t) (iblk m c 0 t) (iblk m c 1 t) (iblk m c 2 t) (iblk m c 3 t) (ix2 j x) * iblk m c 4 t (ix2 x f) = 0 := by
    intro j h
    refine Finset.sum_eq_zero fun x _ => ?_
    rw [show rowsVec (grid0.coords t) (iblk m c 0 t) (iblk m c 1 t) (iblk m c 2 t) (iblk m c 3 t) (ix2 j x) = 0 from h x, zero_mul]
  unfold convAt conv
  rw [blk5, blk5, blk5, blk6]
  refine congrArg₂ (· + ·) (congrArg₂ (· + ·) (congrArg₂ (· + ·) ?_ ?_) ?_) rfl
  · refine (mul_comm _ _).trans (congrArg (· * _) ?_)
    unfold upPrev
    split
    · exact mid _ _ (by simp only []; omega) (by simp) (by simp only []; omega)
    · refine zer _ fun d => ?_
      unfold rows
      rw [dif_pos (by simp only []; omega), if_neg (by omega)]
  · refine (mul_comm _ _).trans (congrArg (· * _) ?_)
    exact mid _ _ (by simp only []; omega) (by simp) (by simp only []; omega)
  · refine (mul_comm _ _).trans (congrArg (· * _) ?_)
    unfold upNext
    split
    · exact mid _ _ (by simp only []; omega) (by simp) (by simp only []; omega)
    · refine zer _ fun d => ?_
      unfold rows
      rw [dif_neg (by simp only []; omega), dif_neg (by simp only []; omega), if_neg (by omega)]

/-- The layer's result as an array. -/
def layerOut (c : Dev nD) : S2x8192x1024.Idx → EReal := fun y =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0).val, (y 0).isLt⟩ ⟨(y 1).val, (y 1).isLt⟩ ⟨(y 2).val, (y 2).isLt⟩

set_option maxHeartbeats 1000000 in
/-- The output array, entry by entry. -/
theorem final (c : Dev nD)
    (h0 : ∀ i, Fin' (m ((c : Thread nD τ).loc main_arg0) i)) (h1 : ∀ i, Fin' (m ((c : Thread nD τ).loc main_arg1) i))
    (h2 : ∀ i, Fin' (m ((c : Thread nD τ).loc main_arg2) i)) (h3 : ∀ i, Fin' (m ((c : Thread nD τ).loc main_arg3) i))
    (h4 : ∀ i, Fin' (m ((c : Thread nD τ).loc main_arg4) i)) :
    (dats m 0 c).arrAt 9 (cfgs 0).N = layerOut m c := by
  refine (dats m 0 c).arrAt_eq_of_covers 9 _ (by decide +kernel) fun t hf y => ?_
  blk_simp; rw [after0_9]; unfold Gen.outsAt0; frame_open
  simp (disch := decide) only [↓ View.readCov_skip, ↓ View.readCov_cons_toLoadRect, ↓ View.readCov_fill]
  frame_out
  simp only [View.readCov_eq_canon']
  erw [rowsVec_eq]
  obtain ⟨r, n, rfl⟩ : ∃ (r : Fin 256) (n : Fin 1024), y = ix3 0 r n := ⟨y 1, y 2, by
    funext i; fin_cases i
    · exact Fin.ext (by have := (y 0).isLt; simpa using this)
    · rfl
    · rfl⟩
  refine (out_at _ (rowsVec (grid0.coords t) (iblk m c 0 t) (iblk m c 1 t) (iblk m c 2 t) (iblk m c 3 t)) (iblk m c 4 t) (iblk m c 5 t)
    (iblk m c 6 t) _ _ _ ?hL (View.cover_of_tiledL _ ![256, 256] (by sl_kernel_rfl)) _ r n).trans ?_
  case hL =>
    refine ⟨?_, ?_, ?_, ?_, ?_, ?_, ?_, ?_, ?_, ?_, ?_, trivial⟩
    · exact fun x => chunk_at _ _ _ _ 2560 5376 (by decide) rfl _ _ _ _ _ _ inb_S256x2816_S256x256_0_2560 x
    · exact fun x => chunk_at _ _ _ _ 2304 5120 (by decide) rfl _ _ _ _ _ _ inb_S256x2816_S256x256_0_2304 x
    · exact fun x => chunk_at _ _ _ _ 2048 4864 (by decide) rfl _ _ _ _ _ _ inb_S256x2816_S256x256_0_2048 x
    · exact fun x => chunk_at _ _ _ _ 1792 4608 (by decide) rfl _ _ _ _ _ _ inb_S256x2816_S256x256_0_1792 x
    · exact fun x => chunk_at _ _ _ _ 1536 4352 (by decide) rfl _ _ _ _ _ _ inb_S256x2816_S256x256_0_1536 x
    · exact fun x => chunk_at _ _ _ _ 1280 4096 (by decide) rfl _ _ _ _ _ _ inb_S256x2816_S256x256_0_1280 x
    · exact fun x => chunk_at _ _ _ _ 1024 3840 (by decide) rfl _ _ _ _ _ _ inb_S256x2816_S256x256_0_1024 x
    · exact fun x => chunk_at _ _ _ _ 768 3584 (by decide) rfl _ _ _ _ _ _ inb_S256x2816_S256x256_0_768 x
    · exact fun x => chunk_at _ _ _ _ 512 3328 (by decide) rfl _ _ _ _ _ _ inb_S256x2816_S256x256_0_512 x
    · exact fun x => chunk_at _ _ _ _ 256 3072 (by decide) rfl _ _ _ _ _ _ inb_S256x2816_S256x256_0_256 x
    · exact fun x => chunk_at _ _ _ _ 0 2816 (by decide) rfl _ _ _ _ _ _ inb_S256x2816_S256x256_0_0 x
  have hq : t.val % 32 < 32 := Nat.mod_lt _ (by decide)
  have ht : t.val < 64 := t.isLt
  have hr := r.isLt
  obtain ⟨b, hb⟩ : ∃ b : Fin 2, b.val = t.val / 32 := ⟨⟨t.val / 32, by omega⟩, rfl⟩
  obtain ⟨s, hs⟩ : ∃ s : Fin 8192, s.val = t.val % 32 * 256 + r.val := ⟨⟨t.val % 32 * 256 + r.val, by omega⟩, rfl⟩
  rw [out9 t r n b s hb hs]
  show _ = out _ _ _ _ _ _ _ b s n
  unfold out
  have e62 : k0_pay62 (F := Ideal) (iblk m c 0 t) (ix2 r n) = m ((c : Thread nD τ).loc main_arg0) (ix3 b s n) := by
    rw [← blk0 m c t r n b s hb hs]
    pointwise [k0_pay62]
  rw [e62]
  congr 1
  have eg : (fun k => iblk m c 8 t (ix2 0 k)) = fun k => m ((c : Thread nD τ).loc main_arg6) (ix2 0 k) := funext fun k => blk8 m c t k
  rw [eg]
  congr 1
  funext k
  unfold down
  refine Finset.sum_congr rfl fun f _ => ?_
  rw [blk7]
  congr 1
  show kgelu (convAt _ _ _ _ r ⟨f.val, _⟩) * convAt _ _ _ _ r ⟨2816 + f.val, _⟩ = act _ _ _ _ _ b s f
  rw [conv_block m c t r b s hb hs, conv_block m c t r b s hb hs, kgelu_eq _ (conv_fin _ _ _ _ _ h0 h1 h2 h3 h4 b s _)]
  rfl

end Cert.FfnIdeal.Value
end
-- ==== Proof.FfnClaims.lean ====
/- Hand-written, untrusted: the claims about the feed-forward kernel. -/
module
public import proofs.«01_k».proof.Defs
public import proofs.«01_k».proof.Proof.Gen.Ffn
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import Idealize.ShloMosaic.Adequacy
public import Idealize.ShloMosaic.Init
@[expose] public section
set_option maxRecDepth 16384
noncomputable section
open Idealize.ShloMosaic Idealize.ShloMosaic.TcCoe Idealize.SL.Sem

namespace Cert.Proof.FfnClaims

/-- The kernel ends with its arguments unchanged and its semaphores at zero. -/
theorem frame_p : Cert.quiescent_Ffn := fun m ρ _ => Cert.Ffn.Gen.frame m ρ
/-- So does the ideal kernel. -/
theorem frame_pi : Cert.quiescent_FfnIdeal := fun m ρ _ => Cert.FfnIdeal.Gen.frame m ρ
/-- The same where the inputs are finite. -/
theorem frame_pi_pre : Cert.quiescent_FfnIdeal_pre_ffn_finite := fun m ρ _ => Cert.FfnIdeal.Gen.frame m ρ
/-- The reference ends with its arguments unchanged. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)
/-- The same where the inputs are finite. -/
theorem frame_ri_pre : Cert.quiescent_FfnRefIdeal_pre_ffn_finite := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The one named constant has the value the ledger states. -/
theorem preserves : Cert.preserves_Ffn_FfnIdeal :=
  IdealRules.named_const.statement Cert.FfnIdeal.κ "gelu_c3" .f32 0x3D122279#32 ((80338380498831 / 2251799813685248 : ℝ) : EReal) rfl

/-- The reference's result is the layer's result as an array. -/
theorem ref_eq (m : (ℓ : Loc Cert.FfnRefIdeal.nD Cert.FfnRefIdeal.τ Cert.FfnRefIdeal.sig) → Buf (Elt Ideal) ℓ) (c : Dev Cert.FfnRefIdeal.nD) :
    Cert.FfnRefIdeal.Value.res_main_v72 (F := Ideal) m c = (fun y : Cert.FfnRefIdeal.S2x8192x1024.Idx =>
      Cert.FfnMath.out (m ((c.tc : Thread Cert.FfnRefIdeal.nD Cert.FfnRefIdeal.τ).loc Cert.FfnRefIdeal.main_arg0))
        (m ((c.tc : Thread Cert.FfnRefIdeal.nD Cert.FfnRefIdeal.τ).loc Cert.FfnRefIdeal.main_arg1))
        (m ((c.tc : Thread Cert.FfnRefIdeal.nD Cert.FfnRefIdeal.τ).loc Cert.FfnRefIdeal.main_arg2))
        (m ((c.tc : Thread Cert.FfnRefIdeal.nD Cert.FfnRefIdeal.τ).loc Cert.FfnRefIdeal.main_arg3))
        (m ((c.tc : Thread Cert.FfnRefIdeal.nD Cert.FfnRefIdeal.τ).loc Cert.FfnRefIdeal.main_arg4))
        (m ((c.tc : Thread Cert.FfnRefIdeal.nD Cert.FfnRefIdeal.τ).loc Cert.FfnRefIdeal.main_arg5))
        (m ((c.tc : Thread Cert.FfnRefIdeal.nD Cert.FfnRefIdeal.τ).loc Cert.FfnRefIdeal.main_arg6))
        ⟨(y 0).val, (y 0).isLt⟩ ⟨(y 1).val, (y 1).isLt⟩ ⟨(y 2).val, (y 2).isLt⟩) := by
  rw [Cert.FfnRefIdeal.Read.val_main_v72_eq]
  funext y
  obtain ⟨b, s, n, rfl⟩ : ∃ (b : Fin 2) (s : Fin 8192) (n : Fin 1024), y = ix3 b s n :=
    ⟨y 0, y 1, y 2, by funext i; fin_cases i <;> rfl⟩
  exact Cert.FfnMath.out_eq _ _ _ _ _ _ _ b s n

/-- On finite inputs the ideal kernel and the ideal reference end with the same result. -/
theorem algebraic : Cert.algebraic_FfnIdeal_FfnRefIdeal_pre_ffn_finite := by
  intro m ρ m' ρ' hpre hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4⟩ := Cert.FfnMath.pre_fin _ _ _ _ _ _ _ (hpre c)
  refine Eq.trans ?_ (Cert.FfnIdeal.Value.final m c h0 h1 h2 h3 h4).symm
  rw [ref_eq, (hagree c).1, (hagree c).2.1, (hagree c).2.2.1, (hagree c).2.2.2.1, (hagree c).2.2.2.2.1, (hagree c).2.2.2.2.2.1,
    (hagree c).2.2.2.2.2.2]
  rfl

end Cert.Proof.FfnClaims
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_qk_finite
public import proofs.«01_k».proof.Proof.Gen.Pre_ffn_finite
public import proofs.«01_k».proof.Proof.AttnClaims
public import proofs.«01_k».proof.Proof.FfnClaims
public import Idealize.ShloMosaic.Adequacy
public import Idealize.ShloMosaic.Init

@[expose] public section

noncomputable section

namespace Cert.Proof

open Idealize.ShloMosaic Idealize.SL.Sem Cert.Attn

/-- Every claim of this directory. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Pre_qk_finite.Gen.facts, Cert.Pre_ffn_finite.Gen.facts,
  AttnClaims.frame_p, AttnClaims.frame_pi, AttnClaims.frame_pi_pre, AttnClaims.frame_ri, AttnClaims.frame_ri_pre,
  FfnClaims.frame_p, FfnClaims.frame_pi, FfnClaims.frame_pi_pre, FfnClaims.frame_ri, FfnClaims.frame_ri_pre,
  AttnClaims.preserves, AttnClaims.algebraic, FfnClaims.preserves, FfnClaims.algebraic⟩

end Cert.Proof

end
